-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pixel_grid [hPre_pixel_grid : Cert.Pre_pixel_grid.Facts] (m : (ℓ : Loc Cert.KernelIdeal.nD Cert.KernelIdeal.τ Cert.KernelIdeal.sig) → Buf (Elt Ideal) ℓ) : Prop :=
  ∀ c : Dev Cert.KernelIdeal.nD,
    (Cert.Pre_pixel_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pixel_grid [hPre_pixel_grid : Cert.Pre_pixel_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pixel_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pixel_grid [hKernelIdeal : Cert.KernelIdeal.Facts] [hPre_pixel_grid : Cert.Pre_pixel_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pixel_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pixel_grid [hReferenceIdeal : Cert.ReferenceIdeal.Facts] [hPre_pixel_grid : Cert.Pre_pixel_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pixel_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_two_sigma_sq" .f32 0xBD638E39#32 ((-1 / 18 : ℝ) : EReal)

def algebraic_KernelIdeal_ReferenceIdeal_pre_pixel_grid [hKernelIdeal : Cert.KernelIdeal.Facts] [hReferenceIdeal : Cert.ReferenceIdeal.Facts] [hPre_pixel_grid : Cert.Pre_pixel_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pixel_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v196)) (v1 : (c : Dev Cert.KernelIdeal.nD) → Buf (Elt Ideal) ((c.tc : Thread Cert.KernelIdeal.nD Cert.KernelIdeal.τ).loc Cert.KernelIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v196) = v0 c
          ∧ r.2.mem ((c.tc : Thread Cert.KernelIdeal.nD Cert.KernelIdeal.τ).loc Cert.KernelIdeal.main_v197) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_v306) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pixel_grid : Cert.Pre_pixel_grid.Facts),
    quiescent_Kernel (hKernel := hKernel)
    ∧ quiescent_KernelIdeal (hKernelIdeal := hKernelIdeal)
    ∧ quiescent_KernelIdeal_pre_pixel_grid (hKernelIdeal := hKernelIdeal) (hPre_pixel_grid := hPre_pixel_grid)
    ∧ quiescent_ReferenceIdeal (hReferenceIdeal := hReferenceIdeal)
    ∧ quiescent_ReferenceIdeal_pre_pixel_grid (hReferenceIdeal := hReferenceIdeal) (hPre_pixel_grid := hPre_pixel_grid)
    ∧ preserves_Kernel_KernelIdeal
    ∧ algebraic_KernelIdeal_ReferenceIdeal_pre_pixel_grid (hKernelIdeal := hKernelIdeal) (hReferenceIdeal := hReferenceIdeal) (hPre_pixel_grid := hPre_pixel_grid)
-- ==== Pre_pixel_grid.lean ====
abbrev S2x96x64x64 : Shape := ⟨4, ![2, 96, 64, 64]⟩
abbrev S16x2x3 : Shape := ⟨3, ![16, 2, 3]⟩
abbrev S64x96 : Shape := ⟨2, ![64, 96]⟩
abbrev S64 : Shape := ⟨1, ![64]⟩
abbrev S128x64 : Shape := ⟨2, ![128, 64]⟩
abbrev S128 : Shape := ⟨1, ![128]⟩
abbrev S4096x1024 : Shape := ⟨2, ![4096, 1024]⟩
abbrev S4096x2 : Shape := ⟨2, ![4096, 2]⟩
abbrev S1x64 : Shape := ⟨2, ![1, 64]⟩
abbrev S64x64 : Shape := ⟨2, ![64, 64]⟩
abbrev S4096 : Shape := ⟨1, ![4096]⟩
abbrev S64x1 : Shape := ⟨2, ![64, 1]⟩
abbrev S4096x1 : Shape := ⟨2, ![4096, 1]⟩
abbrev S_ : Shape := ⟨0, ![]⟩

class Facts : Prop where
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  shapeCasts_S64x64_S4096 : S64x64.ShapeCasts S4096
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  slices_S4096x2_S4096x1_0_0 : S4096x2.Slices ![0, 0] S4096x1
  shapeCasts_S4096x1_S4096 : S4096x1.ShapeCasts S4096
  reducesTo_S4096_S_d0 : S4096.ReducesTo [0] S_
  h_S_ : 0 < S_.numel
  slices_S4096x2_S4096x1_0_1 : S4096x2.Slices ![0, 1] S4096x1

variable [Facts]

def fn {F : FTy → Type} [FloatOps F] (main_arg0 : FVec F S2x96x64x64 .f32) (main_arg1 : FVec F S16x2x3 .f32) (main_arg2 : FVec F S64x96 .f32) (main_arg3 : FVec F S64 .f32) (main_arg4 : FVec F S128x64 .f32) (main_arg5 : FVec F S128 .f32) (main_arg6 : FVec F S128 .f32) (main_arg7 : FVec F S4096x1024 .f32) (main_arg8 : FVec F S4096x2 .f32) : IVec S_ 1 :=
  let main_v0 : FVec F S64 .f32 := sitofp .f32 (iotaInDim S64 32 0)
  let main_v1 : FVec F S1x64 .f32 := broadcastInDim S1x64 ![1] bcast_S64_S1x64_1 main_v0
  let main_v2 : FVec F S64x64 .f32 := broadcastInDim S64x64 ![0, 1] bcast_S1x64_S64x64_0_1 main_v1
  let main_v3 : FVec F S4096 .f32 := shapeCast S4096 main_v2 shapeCasts_S64x64_S4096
  let main_v4 : FVec F S64 .f32 := sitofp .f32 (iotaInDim S64 32 0)
  let main_v5 : FVec F S64x1 .f32 := broadcastInDim S64x1 ![0] bcast_S64_S64x1_0 main_v4
  let main_v6 : FVec F S64x64 .f32 := broadcastInDim S64x64 ![0, 1] bcast_S64x1_S64x64_0_1 main_v5
  let main_v7 : FVec F S4096 .f32 := shapeCast S4096 main_v6 shapeCasts_S64x64_S4096
  let main_v8 : FVec F S4096x1 .f32 := (extractStridedSlice S4096x1 ![0, 0] · slices_S4096x2_S4096x1_0_0) main_arg8
  let main_v9 : FVec F S4096 .f32 := shapeCast S4096 main_v8 shapeCasts_S4096x1_S4096
  let main_v10 : IVec S4096 1 := cmpf .oeq main_v9 main_v3
  let main_c : IVec S_ 1 := constantI S_ 1 1#1
  let main_v11 : IVec S_ 1 := (fun x v => Host.reduce IntOp.andi x v reducesTo_S4096_S_d0 h_S_) main_v10 main_c
  let main_v12 : FVec F S4096x1 .f32 := (extractStridedSlice S4096x1 ![0, 1] · slices_S4096x2_S4096x1_0_1) main_arg8
  let main_v13 : FVec F S4096 .f32 := shapeCast S4096 main_v12 shapeCasts_S4096x1_S4096
  let main_v14 : IVec S4096 1 := cmpf .oeq main_v13 main_v7
  let main_c_0 : IVec S_ 1 := constantI S_ 1 1#1
  let main_v15 : IVec S_ 1 := (fun x v => Host.reduce IntOp.andi x v reducesTo_S4096_S_d0 h_S_) main_v14 main_c_0
  let main_v16 : IVec S_ 1 := andi main_v11 main_v15
  main_v16
-- ==== Kernel.lean ====
abbrev S2x96x64x64 : Shape := ⟨4, ![2, 96, 64, 64]⟩
abbrev S16x2x3 : Shape := ⟨3, ![16, 2, 3]⟩
abbrev S64x96 : Shape := ⟨2, ![64, 96]⟩
abbrev S64 : Shape := ⟨1, ![64]⟩
abbrev S128x64 : Shape := ⟨2, ![128, 64]⟩
abbrev S128 : Shape := ⟨1, ![128]⟩
abbrev S4096x1024 : Shape := ⟨2, ![4096, 1024]⟩
abbrev S4096x2 : Shape := ⟨2, ![4096, 2]⟩
abbrev S_ : Shape := ⟨0, ![]⟩
abbrev S64x64 : Shape := ⟨2, ![64, 64]⟩
abbrev S64x64x1 : Shape := ⟨3, ![64, 64, 1]⟩
abbrev S64x64x3 : Shape := ⟨3, ![64, 64, 3]⟩
abbrev S16x2x64x64 : Shape := ⟨4, ![16, 2, 64, 64]⟩
abbrev S16x64x64x2 : Shape := ⟨4, ![16, 64, 64, 2]⟩
abbrev S16x64x64x1 : Shape := ⟨4, ![16, 64, 64, 1]⟩
abbrev S16x64x64 : Shape := ⟨3, ![16, 64, 64]⟩
abbrev S2x64x64x96 : Shape := ⟨4, ![2, 64, 64, 96]⟩
abbrev S16x2x64x64x96 : Shape := ⟨5, ![16, 2, 64, 64, 96]⟩
abbrev S16x1x64x64x1 : Shape := ⟨5, ![16, 1, 64, 64, 1]⟩
abbrev S16x2x96x64x64 : Shape := ⟨5, ![16, 2, 96, 64, 64]⟩
abbrev S32x96x64x64 : Shape := ⟨4, ![32, 96, 64, 64]⟩
abbrev S32x96x32x32 : Shape := ⟨4, ![32, 96, 32, 32]⟩
abbrev S16x2x96x1024 : Shape := ⟨4, ![16, 2, 96, 1024]⟩
abbrev S16x2x1024x96 : Shape := ⟨4, ![16, 2, 1024, 96]⟩
abbrev S96x64 : Shape := ⟨2, ![96, 64]⟩
abbrev S16x2x1024x64 : Shape := ⟨4, ![16, 2, 1024, 64]⟩
abbrev S1x1x1x64 : Shape := ⟨4, ![1, 1, 1, 64]⟩
abbrev S64x128 : Shape := ⟨2, ![64, 128]⟩
abbrev S16x2x1024x128 : Shape := ⟨4, ![16, 2, 1024, 128]⟩
abbrev S1x1x1x128 : Shape := ⟨4, ![1, 1, 1, 128]⟩
abbrev S16x2x1024 : Shape := ⟨3, ![16, 2, 1024]⟩
abbrev S16x2x1024x1 : Shape := ⟨4, ![16, 2, 1024, 1]⟩
abbrev S2x1024 : Shape := ⟨2, ![2, 1024]⟩
abbrev S1x2x1024 : Shape := ⟨3, ![1, 2, 1024]⟩
abbrev S2x1024x128 : Shape := ⟨3, ![2, 1024, 128]⟩
abbrev S1x4096x1024 : Shape := ⟨3, ![1, 4096, 1024]⟩
abbrev S2x4096x128 : Shape := ⟨3, ![2, 4096, 128]⟩
abbrev S1x512x1024 : Shape := ⟨3, ![1, 512, 1024]⟩
abbrev S1x1024x128 : Shape := ⟨3, ![1, 1024, 128]⟩
abbrev S1x512x128 : Shape := ⟨3, ![1, 512, 128]⟩
abbrev S512x1024 : Shape := ⟨2, ![512, 1024]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩
abbrev S2x4096x4096 : Shape := ⟨3, ![2, 4096, 4096]⟩
abbrev S1x256x128 : Shape := ⟨3, ![1, 256, 128]⟩
abbrev S1x4096x128 : Shape := ⟨3, ![1, 4096, 128]⟩
abbrev S1x256x4096 : Shape := ⟨3, ![1, 256, 4096]⟩
abbrev S256x4096 : Shape := ⟨2, ![256, 4096]⟩
abbrev S256x128 : Shape := ⟨2, ![256, 128]⟩
abbrev S256x512 : Shape := ⟨2, ![256, 512]⟩
abbrev S8x4096 : Shape := ⟨2, ![8, 4096]⟩
abbrev S8x1 : Shape := ⟨2, ![8, 1]⟩
abbrev S8 : Shape := ⟨1, ![8]⟩
abbrev S8x4095 : Shape := ⟨2, ![8, 4095]⟩
abbrev S8x2 : Shape := ⟨2, ![8, 2]⟩
abbrev S8x4094 : Shape := ⟨2, ![8, 4094]⟩
abbrev S8x4 : Shape := ⟨2, ![8, 4]⟩
abbrev S8x4092 : Shape := ⟨2, ![8, 4092]⟩
abbrev S8x8 : Shape := ⟨2, ![8, 8]⟩
abbrev S8x4088 : Shape := ⟨2, ![8, 4088]⟩
abbrev S8x16 : Shape := ⟨2, ![8, 16]⟩
abbrev S8x4080 : Shape := ⟨2, ![8, 4080]⟩
abbrev S8x32 : Shape := ⟨2, ![8, 32]⟩
abbrev S8x4064 : Shape := ⟨2, ![8, 4064]⟩
abbrev S8x64 : Shape := ⟨2, ![8, 64]⟩
abbrev S8x4032 : Shape := ⟨2, ![8, 4032]⟩
abbrev S8x128 : Shape := ⟨2, ![8, 128]⟩
abbrev S8x3968 : Shape := ⟨2, ![8, 3968]⟩
abbrev S8x256 : Shape := ⟨2, ![8, 256]⟩
abbrev S8x3840 : Shape := ⟨2, ![8, 3840]⟩
abbrev S8x512 : Shape := ⟨2, ![8, 512]⟩
abbrev S8x3584 : Shape := ⟨2, ![8, 3584]⟩
abbrev S8x1024 : Shape := ⟨2, ![8, 1024]⟩
abbrev S8x3072 : Shape := ⟨2, ![8, 3072]⟩
abbrev S8x2048 : Shape := ⟨2, ![8, 2048]⟩
abbrev S1x8x4096 : Shape := ⟨3, ![1, 8, 4096]⟩

abbrev nBuf : Space → Nat
  | .hbm => 301
  | .vmem => 13
  | .smem => 0
  | _ => 0

abbrev hbmTy0_0 (i : Nat) : BufTy := match i % 128 with
  | 0 => ⟨S2x96x64x64, .f32⟩
  | 1 => ⟨S16x2x3, .f32⟩
  | 2 => ⟨S64x96, .f32⟩
  | 3 => ⟨S64, .f32⟩
  | 4 => ⟨S128x64, .f32⟩
  | 5 => ⟨S128, .f32⟩
  | 6 => ⟨S128, .f32⟩
  | 7 => ⟨S4096x1024, .f32⟩
  | 8 => ⟨S4096x2, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S64, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S64x64, .f32⟩
  | 36 => ⟨S64x64, .f32⟩
  | 37 => ⟨S_, .f32⟩
  | 38 => ⟨S64x64, .f32⟩
  | 39 => ⟨S64x64x1, .f32⟩
  | 40 => ⟨S64x64x1, .f32⟩
  | 41 => ⟨S64x64x1, .f32⟩
  | 42 => ⟨S64x64x3, .f32⟩
  | 43 => ⟨S16x2x64x64, .f32⟩
  | 44 => ⟨S16x64x64x2, .f32⟩
  | 45 => ⟨S16x64x64x1, .f32⟩
  | 46 => ⟨S16x64x64, .f32⟩
  | 47 => ⟨S_, .f32⟩
  | 48 => ⟨S16x64x64, .f32⟩
  | 49 => ⟨S16x64x64, .f32⟩
  | 50 => ⟨S_, .f32⟩
  | 51 => ⟨S16x64x64, .f32⟩
  | 52 => ⟨S16x64x64, .f32⟩
  | 53 => ⟨S_, .f32⟩
  | 54 => ⟨S16x64x64, .f32⟩
  | 55 => ⟨S16x64x64, .f32⟩
  | 56 => ⟨S_, .f32⟩
  | 57 => ⟨S16x64x64, .f32⟩
  | 58 => ⟨S16x64x64, .f32⟩
  | 59 => ⟨S_, .f32⟩
  | 60 => ⟨S_, .f32⟩
  | 61 => ⟨S_, .f32⟩
  | 62 => ⟨S16x64x64, .f32⟩
  | 63 => ⟨S16x64x64, .f32⟩
  | 64 => ⟨S_, .f32⟩
  | 65 => ⟨S16x64x64, .f32⟩
  | 66 => ⟨S16x64x64, .f32⟩
  | 67 => ⟨S16x64x64x1, .f32⟩
  | 68 => ⟨S16x64x64, .f32⟩
  | 69 => ⟨S_, .f32⟩
  | 70 => ⟨S16x64x64, .f32⟩
  | 71 => ⟨S16x64x64, .f32⟩
  | 72 => ⟨S_, .f32⟩
  | 73 => ⟨S16x64x64, .f32⟩
  | 74 => ⟨S16x64x64, .f32⟩
  | 75 => ⟨S_, .f32⟩
  | 76 => ⟨S16x64x64, .f32⟩
  | 77 => ⟨S16x64x64, .f32⟩
  | 78 => ⟨S_, .f32⟩
  | 79 => ⟨S16x64x64, .f32⟩
  | 80 => ⟨S16x64x64, .f32⟩
  | 81 => ⟨S_, .f32⟩
  | 82 => ⟨S_, .f32⟩
  | 83 => ⟨S_, .f32⟩
  | 84 => ⟨S16x64x64, .f32⟩
  | 85 => ⟨S16x64x64, .f32⟩
  | 86 => ⟨S_, .f32⟩
  | 87 => ⟨S16x64x64, .f32⟩
  | 88 => ⟨S16x64x64, .f32⟩
  | 89 => ⟨S16x64x64, .f32⟩
  | 90 => ⟨S16x64x64, .f32⟩
  | 91 => ⟨S16x64x64, .f32⟩
  | 92 => ⟨S16x64x64, .f32⟩
  | 93 => ⟨S_, .i32⟩
  | 94 => ⟨S_, .i32⟩
  | 95 => ⟨S_, .f32⟩
  | 96 => ⟨S16x64x64, .f32⟩
  | 97 => ⟨S16x64x64, .f32⟩
  | 98 => ⟨S_, .f32⟩
  | 99 => ⟨S16x64x64, .f32⟩
  | 100 => ⟨S16x64x64, .f32⟩
  | 101 => ⟨S16x64x64, .i32⟩
  | 102 => ⟨S_, .f32⟩
  | 103 => ⟨S16x64x64, .f32⟩
  | 104 => ⟨S16x64x64, .f32⟩
  | 105 => ⟨S_, .i32⟩
  | 106 => ⟨S_, .i32⟩
  | 107 => ⟨S_, .f32⟩
  | 108 => ⟨S16x64x64, .f32⟩
  | 109 => ⟨S16x64x64, .f32⟩
  | 110 => ⟨S_, .f32⟩
  | 111 => ⟨S16x64x64, .f32⟩
  | 112 => ⟨S16x64x64, .f32⟩
  | 113 => ⟨S16x64x64, .i32⟩
  | 114 => ⟨S_, .i32⟩
  | 115 => ⟨S_, .i32⟩
  | 116 => ⟨S_, .f32⟩
  | 117 => ⟨S16x64x64, .f32⟩
  | 118 => ⟨S16x64x64, .f32⟩
  | 119 => ⟨S_, .f32⟩
  | 120 => ⟨S16x64x64, .f32⟩
  | 121 => ⟨S16x64x64, .f32⟩
  | 122 => ⟨S16x64x64, .i32⟩
  | 123 => ⟨S_, .f32⟩
  | 124 => ⟨S16x64x64, .f32⟩
  | 125 => ⟨S16x64x64, .f32⟩
  | 126 => ⟨S_, .i32⟩
  | 127 => ⟨S_, .i32⟩
  | _ => ⟨S2x96x64x64, .f32⟩

abbrev hbmTy0_1 (i : Nat) : BufTy := match i % 128 with
  | 0 => ⟨S_, .f32⟩
  | 1 => ⟨S16x64x64, .f32⟩
  | 2 => ⟨S16x64x64, .f32⟩
  | 3 => ⟨S_, .f32⟩
  | 4 => ⟨S16x64x64, .f32⟩
  | 5 => ⟨S16x64x64, .f32⟩
  | 6 => ⟨S16x64x64, .i32⟩
  | 7 => ⟨S2x64x64x96, .f32⟩
  | 8 => ⟨S_, .i32⟩
  | 9 => ⟨S16x64x64, .i32⟩
  | 10 => ⟨S16x64x64, .i1⟩
  | 11 => ⟨S_, .i32⟩
  | 12 => ⟨S16x64x64, .i32⟩
  | 13 => ⟨S16x64x64, .i32⟩
  | 14 => ⟨S16x64x64, .i32⟩
  | 15 => ⟨S_, .i32⟩
  | 16 => ⟨S16x64x64, .i32⟩
  | 17 => ⟨S16x64x64, .i1⟩
  | 18 => ⟨S_, .i32⟩
  | 19 => ⟨S16x64x64, .i32⟩
  | 20 => ⟨S16x64x64, .i32⟩
  | 21 => ⟨S16x64x64, .i32⟩
  | 22 => ⟨S16x64x64x1, .i32⟩
  | 23 => ⟨S16x64x64x1, .i32⟩
  | 24 => ⟨S16x64x64x2, .i32⟩
  | 25 => ⟨S16x2x64x64x96, .f32⟩
  | 26 => ⟨S_, .i32⟩
  | 27 => ⟨S16x64x64, .i32⟩
  | 28 => ⟨S16x64x64, .i1⟩
  | 29 => ⟨S_, .i32⟩
  | 30 => ⟨S16x64x64, .i32⟩
  | 31 => ⟨S16x64x64, .i32⟩
  | 32 => ⟨S16x64x64, .i32⟩
  | 33 => ⟨S_, .i32⟩
  | 34 => ⟨S16x64x64, .i32⟩
  | 35 => ⟨S16x64x64, .i1⟩
  | 36 => ⟨S_, .i32⟩
  | 37 => ⟨S16x64x64, .i32⟩
  | 38 => ⟨S16x64x64, .i32⟩
  | 39 => ⟨S16x64x64, .i32⟩
  | 40 => ⟨S16x64x64x1, .i32⟩
  | 41 => ⟨S16x64x64x1, .i32⟩
  | 42 => ⟨S16x64x64x2, .i32⟩
  | 43 => ⟨S16x2x64x64x96, .f32⟩
  | 44 => ⟨S_, .i32⟩
  | 45 => ⟨S16x64x64, .i32⟩
  | 46 => ⟨S16x64x64, .i1⟩
  | 47 => ⟨S_, .i32⟩
  | 48 => ⟨S16x64x64, .i32⟩
  | 49 => ⟨S16x64x64, .i32⟩
  | 50 => ⟨S16x64x64, .i32⟩
  | 51 => ⟨S_, .i32⟩
  | 52 => ⟨S16x64x64, .i32⟩
  | 53 => ⟨S16x64x64, .i1⟩
  | 54 => ⟨S_, .i32⟩
  | 55 => ⟨S16x64x64, .i32⟩
  | 56 => ⟨S16x64x64, .i32⟩
  | 57 => ⟨S16x64x64, .i32⟩
  | 58 => ⟨S16x64x64x1, .i32⟩
  | 59 => ⟨S16x64x64x1, .i32⟩
  | 60 => ⟨S16x64x64x2, .i32⟩
  | 61 => ⟨S16x2x64x64x96, .f32⟩
  | 62 => ⟨S_, .i32⟩
  | 63 => ⟨S16x64x64, .i32⟩
  | 64 => ⟨S16x64x64, .i1⟩
  | 65 => ⟨S_, .i32⟩
  | 66 => ⟨S16x64x64, .i32⟩
  | 67 => ⟨S16x64x64, .i32⟩
  | 68 => ⟨S16x64x64, .i32⟩
  | 69 => ⟨S_, .i32⟩
  | 70 => ⟨S16x64x64, .i32⟩
  | 71 => ⟨S16x64x64, .i1⟩
  | 72 => ⟨S_, .i32⟩
  | 73 => ⟨S16x64x64, .i32⟩
  | 74 => ⟨S16x64x64, .i32⟩
  | 75 => ⟨S16x64x64, .i32⟩
  | 76 => ⟨S16x64x64x1, .i32⟩
  | 77 => ⟨S16x64x64x1, .i32⟩
  | 78 => ⟨S16x64x64x2, .i32⟩
  | 79 => ⟨S16x2x64x64x96, .f32⟩
  | 80 => ⟨S16x1x64x64x1, .f32⟩
  | 81 => ⟨S16x1x64x64x1, .f32⟩
  | 82 => ⟨S_, .f32⟩
  | 83 => ⟨S16x1x64x64x1, .f32⟩
  | 84 => ⟨S16x1x64x64x1, .f32⟩
  | 85 => ⟨S16x2x64x64x96, .f32⟩
  | 86 => ⟨S16x2x64x64x96, .f32⟩
  | 87 => ⟨S_, .f32⟩
  | 88 => ⟨S16x1x64x64x1, .f32⟩
  | 89 => ⟨S16x1x64x64x1, .f32⟩
  | 90 => ⟨S16x2x64x64x96, .f32⟩
  | 91 => ⟨S16x2x64x64x96, .f32⟩
  | 92 => ⟨S16x2x64x64x96, .f32⟩
  | 93 => ⟨S16x2x64x64x96, .f32⟩
  | 94 => ⟨S_, .f32⟩
  | 95 => ⟨S16x1x64x64x1, .f32⟩
  | 96 => ⟨S16x1x64x64x1, .f32⟩
  | 97 => ⟨S16x2x64x64x96, .f32⟩
  | 98 => ⟨S16x2x64x64x96, .f32⟩
  | 99 => ⟨S16x2x64x64x96, .f32⟩
  | 100 => ⟨S_, .f32⟩
  | 101 => ⟨S16x1x64x64x1, .f32⟩
  | 102 => ⟨S16x1x64x64x1, .f32⟩
  | 103 => ⟨S16x2x64x64x96, .f32⟩
  | 104 => ⟨S16x2x64x64x96, .f32⟩
  | 105 => ⟨S16x2x64x64x96, .f32⟩
  | 106 => ⟨S16x2x64x64x96, .f32⟩
  | 107 => ⟨S16x2x64x64x96, .f32⟩
  | 108 => ⟨S16x2x64x64x96, .f32⟩
  | 109 => ⟨S16x2x64x64x96, .f32⟩
  | 110 => ⟨S16x2x64x64x96, .f32⟩
  | 111 => ⟨S16x2x64x64x96, .f32⟩
  | 112 => ⟨S16x2x64x64x96, .f32⟩
  | 113 => ⟨S16x2x96x64x64, .f32⟩
  | 114 => ⟨S32x96x64x64, .f32⟩
  | 115 => ⟨S_, .f32⟩
  | 116 => ⟨S_, .f32⟩
  | 117 => ⟨S32x96x32x32, .f32⟩
  | 118 => ⟨S_, .f32⟩
  | 119 => ⟨S32x96x32x32, .f32⟩
  | 120 => ⟨S32x96x32x32, .f32⟩
  | 121 => ⟨S16x2x96x1024, .f32⟩
  | 122 => ⟨S16x2x1024x96, .f32⟩
  | 123 => ⟨S96x64, .f32⟩
  | 124 => ⟨S16x2x1024x64, .f32⟩
  | 125 => ⟨S1x1x1x64, .f32⟩
  | 126 => ⟨S16x2x1024x64, .f32⟩
  | 127 => ⟨S16x2x1024x64, .f32⟩
  | _ => ⟨S2x96x64x64, .f32⟩

abbrev hbmTy0_2 (i : Nat) : BufTy := match i % 128 with
  | 0 => ⟨S64x128, .f32⟩
  | 1 => ⟨S16x2x1024x128, .f32⟩
  | 2 => ⟨S1x1x1x128, .f32⟩
  | 3 => ⟨S16x2x1024x128, .f32⟩
  | 4 => ⟨S16x2x1024x128, .f32⟩
  | 5 => ⟨S16x2x1024x128, .f32⟩
  | 6 => ⟨S_, .f32⟩
  | 7 => ⟨S16x2x1024, .f32⟩
  | 8 => ⟨S16x2x1024x1, .f32⟩
  | 9 => ⟨S16x2x1024x1, .f32⟩
  | 10 => ⟨S_, .f32⟩
  | 11 => ⟨S16x2x1024x1, .f32⟩
  | 12 => ⟨S16x2x1024x1, .f32⟩
  | 13 => ⟨S16x2x1024x128, .f32⟩
  | 14 => ⟨S16x2x1024x128, .f32⟩
  | 15 => ⟨S1x1x1x128, .f32⟩
  | 16 => ⟨S16x2x1024x128, .f32⟩
  | 17 => ⟨S16x2x1024x128, .f32⟩
  | 18 => ⟨S_, .f32⟩
  | 19 => ⟨S16x2x1024, .f32⟩
  | 20 => ⟨S_, .f32⟩
  | 21 => ⟨S16x2x1024, .f32⟩
  | 22 => ⟨S16x2x1024, .f32⟩
  | 23 => ⟨S_, .f32⟩
  | 24 => ⟨S2x1024, .f32⟩
  | 25 => ⟨S_, .f32⟩
  | 26 => ⟨S2x1024, .f32⟩
  | 27 => ⟨S2x1024, .f32⟩
  | 28 => ⟨S1x2x1024, .f32⟩
  | 29 => ⟨S16x2x1024, .f32⟩
  | 30 => ⟨S16x2x1024, .f32⟩
  | 31 => ⟨S16x2x1024, .f32⟩
  | 32 => ⟨S_, .f32⟩
  | 33 => ⟨S2x1024, .f32⟩
  | 34 => ⟨S1x2x1024, .f32⟩
  | 35 => ⟨S16x2x1024, .f32⟩
  | 36 => ⟨S16x2x1024, .f32⟩
  | 37 => ⟨S16x2x1024x1, .f32⟩
  | 38 => ⟨S16x2x1024x128, .f32⟩
  | 39 => ⟨S16x2x1024x128, .f32⟩
  | 40 => ⟨S_, .f32⟩
  | 41 => ⟨S2x1024x128, .f32⟩
  | 42 => ⟨S1x4096x1024, .f32⟩
  | 43 => ⟨S2x4096x128, .f32⟩
  | 44 => ⟨S2x4096x4096, .f32⟩
  | _ => ⟨S2x96x64x64, .f32⟩

abbrev hbmTy (i : Nat) : BufTy := match i / 128 with
  | 0 => hbmTy0_0 i
  | 1 => hbmTy0_1 i
  | 2 => hbmTy0_2 i
  | _ => ⟨S2x96x64x64, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x512x128, .f32⟩
  | .local _ .vmem, ⟨5, _⟩ => ⟨S1x512x128, .f32⟩
  | .local _ .vmem, ⟨6, _⟩ => ⟨S1x256x128, .f32⟩
  | .local _ .vmem, ⟨7, _⟩ => ⟨S1x256x128, .f32⟩
  | .local _ .vmem, ⟨8, _⟩ => ⟨S1x4096x128, .f32⟩
  | .local _ .vmem, ⟨9, _⟩ => ⟨S1x4096x128, .f32⟩
  | .local _ .vmem, ⟨10, _⟩ => ⟨S1x256x4096, .f32⟩
  | .local _ .vmem, ⟨11, _⟩ => ⟨S1x256x4096, .f32⟩
  | .local _ .vmem, ⟨12, _⟩ => ⟨S256x4096, .f32⟩
  | _, _ => ⟨S2x96x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_cst_13 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_14 : Ref sig .tc := ⟨.hbm, 69, rfl⟩
abbrev main_v40 : Ref sig .tc := ⟨.hbm, 70, rfl⟩
abbrev main_v41 : Ref sig .tc := ⟨.hbm, 71, rfl⟩
abbrev main_cst_15 : Ref sig .tc := ⟨.hbm, 72, rfl⟩
abbrev main_v42 : Ref sig .tc := ⟨.hbm, 73, rfl⟩
abbrev main_v43 : Ref sig .tc := ⟨.hbm, 74, rfl⟩
abbrev main_cst_16 : Ref sig .tc := ⟨.hbm, 75, rfl⟩
abbrev main_v44 : Ref sig .tc := ⟨.hbm, 76, rfl⟩
abbrev main_v45 : Ref sig .tc := ⟨.hbm, 77, rfl⟩
abbrev main_cst_17 : Ref sig .tc := ⟨.hbm, 78, rfl⟩
abbrev main_v46 : Ref sig .tc := ⟨.hbm, 79, rfl⟩
abbrev main_v47 : Ref sig .tc := ⟨.hbm, 80, rfl⟩
abbrev main_cst_18 : Ref sig .tc := ⟨.hbm, 81, rfl⟩
abbrev main_cst_19 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_c : Ref sig .tc := ⟨.hbm, 93, rfl⟩
abbrev main_c_20 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v53 : Ref sig .tc := ⟨.hbm, 100, rfl⟩
abbrev main_v54 : Ref sig .tc := ⟨.hbm, 101, rfl⟩
abbrev main_cst_21 : Ref sig .tc := ⟨.hbm, 102, rfl⟩
abbrev main_v55 : Ref sig .tc := ⟨.hbm, 103, rfl⟩
abbrev main_v56 : Ref sig .tc := ⟨.hbm, 104, rfl⟩
abbrev main_c_22 : Ref sig .tc := ⟨.hbm, 105, rfl⟩
abbrev main_c_23 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v57 : Ref sig .tc := ⟨.hbm, 112, rfl⟩
abbrev main_v58 : Ref sig .tc := ⟨.hbm, 113, rfl⟩
abbrev main_c_24 : Ref sig .tc := ⟨.hbm, 114, rfl⟩
abbrev main_c_25 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_v59 : Ref sig .tc := ⟨.hbm, 121, rfl⟩
abbrev main_v60 : Ref sig .tc := ⟨.hbm, 122, rfl⟩
abbrev main_cst_26 : Ref sig .tc := ⟨.hbm, 123, rfl⟩
abbrev main_v61 : Ref sig .tc := ⟨.hbm, 124, rfl⟩
abbrev main_v62 : Ref sig .tc := ⟨.hbm, 125, rfl⟩
abbrev main_c_27 : Ref sig .tc := ⟨.hbm, 126, rfl⟩
abbrev main_c_28 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_c_29 : Ref sig .tc := ⟨.hbm, 136, rfl⟩
abbrev main_v66 : Ref sig .tc := ⟨.hbm, 137, rfl⟩
abbrev main_v67 : Ref sig .tc := ⟨.hbm, 138, rfl⟩
abbrev main_c_30 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_c_31 : Ref sig .tc := ⟨.hbm, 143, rfl⟩
abbrev main_v71 : Ref sig .tc := ⟨.hbm, 144, rfl⟩
abbrev main_v72 : Ref sig .tc := ⟨.hbm, 145, rfl⟩
abbrev main_c_32 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_c_33 : Ref sig .tc := ⟨.hbm, 154, rfl⟩
abbrev main_v80 : Ref sig .tc := ⟨.hbm, 155, rfl⟩
abbrev main_v81 : Ref sig .tc := ⟨.hbm, 156, rfl⟩
abbrev main_c_34 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_c_35 : Ref sig .tc := ⟨.hbm, 161, rfl⟩
abbrev main_v85 : Ref sig .tc := ⟨.hbm, 162, rfl⟩
abbrev main_v86 : Ref sig .tc := ⟨.hbm, 163, rfl⟩
abbrev main_c_36 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_c_37 : Ref sig .tc := ⟨.hbm, 172, rfl⟩
abbrev main_v94 : Ref sig .tc := ⟨.hbm, 173, rfl⟩
abbrev main_v95 : Ref sig .tc := ⟨.hbm, 174, rfl⟩
abbrev main_c_38 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_c_39 : Ref sig .tc := ⟨.hbm, 179, rfl⟩
abbrev main_v99 : Ref sig .tc := ⟨.hbm, 180, rfl⟩
abbrev main_v100 : Ref sig .tc := ⟨.hbm, 181, rfl⟩
abbrev main_c_40 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_c_41 : Ref sig .tc := ⟨.hbm, 190, rfl⟩
abbrev main_v108 : Ref sig .tc := ⟨.hbm, 191, rfl⟩
abbrev main_v109 : Ref sig .tc := ⟨.hbm, 192, rfl⟩
abbrev main_c_42 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_c_43 : Ref sig .tc := ⟨.hbm, 197, rfl⟩
abbrev main_v113 : Ref sig .tc := ⟨.hbm, 198, rfl⟩
abbrev main_v114 : Ref sig .tc := ⟨.hbm, 199, rfl⟩
abbrev main_c_44 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_cst_45 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_cst_46 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_cst_47 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_cst_48 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_cst_49 : Ref sig .tc := ⟨.hbm, 243, rfl⟩
abbrev main_v153 : Ref sig .tc := ⟨.hbm, 244, rfl⟩
abbrev main_v154 : Ref sig .tc := ⟨.hbm, 245, rfl⟩
abbrev main_cst_50 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_call6_v0 : Ref sig .tc := ⟨.hbm, 261, rfl⟩
abbrev main_call6_cst : Ref sig .tc := ⟨.hbm, 262, rfl⟩
abbrev main_call6_v1 : Ref sig .tc := ⟨.hbm, 263, rfl⟩
abbrev main_call6_v2 : Ref sig .tc := ⟨.hbm, 264, rfl⟩
abbrev main_v169 : Ref sig .tc := ⟨.hbm, 265, rfl⟩
abbrev main_cst_51 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_cst_52 : Ref sig .tc := ⟨.hbm, 274, rfl⟩
abbrev main_v177 : Ref sig .tc := ⟨.hbm, 275, rfl⟩
abbrev main_cst_53 : Ref sig .tc := ⟨.hbm, 276, rfl⟩
abbrev main_v178 : Ref sig .tc := ⟨.hbm, 277, rfl⟩
abbrev main_v179 : Ref sig .tc := ⟨.hbm, 278, rfl⟩
abbrev main_cst_54 : Ref sig .tc := ⟨.hbm, 279, rfl⟩
abbrev main_v180 : Ref sig .tc := ⟨.hbm, 280, rfl⟩
abbrev main_cst_55 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_cst_56 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_cst_57 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

@[reducible] def k1_t1_loop : Scf.Loop 32 :=
  let c0_i32_177 : BitVec 32 := 0#32
  let c32_i32 : BitVec 32 := 32#32
  let v563 : BitVec 32 := Scalar.addi c0_i32_177 c32_i32
  let c1_i32_178 : BitVec 32 := 1#32
  ⟨c0_i32_177, v563, c1_i32_178⟩
@[reducible] def k1_t2_loop : Scf.Loop 32 :=
  let c0_i32_202 : BitVec 32 := 0#32
  let c32_i32_203 : BitVec 32 := 32#32
  let v644 : BitVec 32 := Scalar.addi c0_i32_202 c32_i32_203
  let c1_i32_204 : BitVec 32 := 1#32
  ⟨c0_i32_202, v644, c1_i32_204⟩
@[reducible] def k1_t3_loop : Scf.Loop 32 :=
  let c0_i32_228 : BitVec 32 := 0#32
  let c32_i32_229 : BitVec 32 := 32#32
  let v725 : BitVec 32 := Scalar.addi c0_i32_228 c32_i32_229
  let c1_i32_230 : BitVec 32 := 1#32
  ⟨c0_i32_228, v725, c1_i32_230⟩
@[reducible] def k1_t4_loop : Scf.Loop 32 :=
  let c0_i32_254 : BitVec 32 := 0#32
  let c32_i32_255 : BitVec 32 := 32#32
  let v806 : BitVec 32 := Scalar.addi c0_i32_254 c32_i32_255
  let c1_i32_256 : BitVec 32 := 1#32
  ⟨c0_i32_254, v806, c1_i32_256⟩
@[reducible] def k1_t5_loop : Scf.Loop 32 :=
  let c0_i32_280 : BitVec 32 := 0#32
  let c32_i32_281 : BitVec 32 := 32#32
  let v887 : BitVec 32 := Scalar.addi c0_i32_280 c32_i32_281
  let c1_i32_282 : BitVec 32 := 1#32
  ⟨c0_i32_280, v887, c1_i32_282⟩
@[reducible] def k1_t6_loop : Scf.Loop 32 :=
  let c0_i32_306 : BitVec 32 := 0#32
  let c32_i32_307 : BitVec 32 := 32#32
  let v968 : BitVec 32 := Scalar.addi c0_i32_306 c32_i32_307
  let c1_i32_308 : BitVec 32 := 1#32
  ⟨c0_i32_306, v968, c1_i32_308⟩
@[reducible] def k1_t7_loop : Scf.Loop 32 :=
  let c0_i32_332 : BitVec 32 := 0#32
  let c32_i32_333 : BitVec 32 := 32#32
  let v1049 : BitVec 32 := Scalar.addi c0_i32_332 c32_i32_333
  let c1_i32_334 : BitVec 32 := 1#32
  ⟨c0_i32_332, v1049, c1_i32_334⟩
@[reducible] def k1_t8_loop : Scf.Loop 32 :=
  let c0_i32_358 : BitVec 32 := 0#32
  let c32_i32_359 : BitVec 32 := 32#32
  let v1130 : BitVec 32 := Scalar.addi c0_i32_358 c32_i32_359
  let c1_i32_360 : BitVec 32 := 1#32
  ⟨c0_i32_358, v1130, c1_i32_360⟩
@[reducible] def k1_t9_loop : Scf.Loop 32 :=
  let c0_i32_384 : BitVec 32 := 0#32
  let c32_i32_385 : BitVec 32 := 32#32
  let v1211 : BitVec 32 := Scalar.addi c0_i32_384 c32_i32_385
  let c1_i32_386 : BitVec 32 := 1#32
  ⟨c0_i32_384, v1211, c1_i32_386⟩
@[reducible] def k1_t10_loop : Scf.Loop 32 :=
  let c0_i32_410 : BitVec 32 := 0#32
  let c32_i32_411 : BitVec 32 := 32#32
  let v1292 : BitVec 32 := Scalar.addi c0_i32_410 c32_i32_411
  let c1_i32_412 : BitVec 32 := 1#32
  ⟨c0_i32_410, v1292, c1_i32_412⟩
@[reducible] def k1_t11_loop : Scf.Loop 32 :=
  let c0_i32_436 : BitVec 32 := 0#32
  let c32_i32_437 : BitVec 32 := 32#32
  let v1373 : BitVec 32 := Scalar.addi c0_i32_436 c32_i32_437
  let c1_i32_438 : BitVec 32 := 1#32
  ⟨c0_i32_436, v1373, c1_i32_438⟩
@[reducible] def k1_t12_loop : Scf.Loop 32 :=
  let c0_i32_462 : BitVec 32 := 0#32
  let c32_i32_463 : BitVec 32 := 32#32
  let v1454 : BitVec 32 := Scalar.addi c0_i32_462 c32_i32_463
  let c1_i32_464 : BitVec 32 := 1#32
  ⟨c0_i32_462, v1454, c1_i32_464⟩
@[reducible] def k1_t13_loop : Scf.Loop 32 :=
  let c0_i32_488 : BitVec 32 := 0#32
  let c32_i32_489 : BitVec 32 := 32#32
  let v1535 : BitVec 32 := Scalar.addi c0_i32_488 c32_i32_489
  let c1_i32_490 : BitVec 32 := 1#32
  ⟨c0_i32_488, v1535, c1_i32_490⟩
@[reducible] def k1_t14_loop : Scf.Loop 32 :=
  let c0_i32_514 : BitVec 32 := 0#32
  let c32_i32_515 : BitVec 32 := 32#32
  let v1616 : BitVec 32 := Scalar.addi c0_i32_514 c32_i32_515
  let c1_i32_516 : BitVec 32 := 1#32
  ⟨c0_i32_514, v1616, c1_i32_516⟩
@[reducible] def k1_t15_loop : Scf.Loop 32 :=
  let c0_i32_540 : BitVec 32 := 0#32
  let c32_i32_541 : BitVec 32 := 32#32
  let v1697 : BitVec 32 := Scalar.addi c0_i32_540 c32_i32_541
  let c1_i32_542 : BitVec 32 := 1#32
  ⟨c0_i32_540, v1697, c1_i32_542⟩
@[reducible] def k1_t16_loop : Scf.Loop 32 :=
  let c0_i32_566 : BitVec 32 := 0#32
  let c32_i32_567 : BitVec 32 := 32#32
  let v1778 : BitVec 32 := Scalar.addi c0_i32_566 c32_i32_567
  let c1_i32_568 : BitVec 32 := 1#32
  ⟨c0_i32_566, v1778, c1_i32_568⟩
@[reducible] def k1_t17_loop : Scf.Loop 32 :=
  let c0_i32_592 : BitVec 32 := 0#32
  let c32_i32_593 : BitVec 32 := 32#32
  let v1859 : BitVec 32 := Scalar.addi c0_i32_592 c32_i32_593
  let c1_i32_594 : BitVec 32 := 1#32
  ⟨c0_i32_592, v1859, c1_i32_594⟩
@[reducible] def k1_t18_loop : Scf.Loop 32 :=
  let c0_i32_618 : BitVec 32 := 0#32
  let c32_i32_619 : BitVec 32 := 32#32
  let v1940 : BitVec 32 := Scalar.addi c0_i32_618 c32_i32_619
  let c1_i32_620 : BitVec 32 := 1#32
  ⟨c0_i32_618, v1940, c1_i32_620⟩
@[reducible] def k1_t19_loop : Scf.Loop 32 :=
  let c0_i32_644 : BitVec 32 := 0#32
  let c32_i32_645 : BitVec 32 := 32#32
  let v2021 : BitVec 32 := Scalar.addi c0_i32_644 c32_i32_645
  let c1_i32_646 : BitVec 32 := 1#32
  ⟨c0_i32_644, v2021, c1_i32_646⟩
@[reducible] def k1_t20_loop : Scf.Loop 32 :=
  let c0_i32_670 : BitVec 32 := 0#32
  let c32_i32_671 : BitVec 32 := 32#32
  let v2102 : BitVec 32 := Scalar.addi c0_i32_670 c32_i32_671
  let c1_i32_672 : BitVec 32 := 1#32
  ⟨c0_i32_670, v2102, c1_i32_672⟩
@[reducible] def k1_t21_loop : Scf.Loop 32 :=
  let c0_i32_696 : BitVec 32 := 0#32
  let c32_i32_697 : BitVec 32 := 32#32
  let v2183 : BitVec 32 := Scalar.addi c0_i32_696 c32_i32_697
  let c1_i32_698 : BitVec 32 := 1#32
  ⟨c0_i32_696, v2183, c1_i32_698⟩
@[reducible] def k1_t22_loop : Scf.Loop 32 :=
  let c0_i32_722 : BitVec 32 := 0#32
  let c32_i32_723 : BitVec 32 := 32#32
  let v2264 : BitVec 32 := Scalar.addi c0_i32_722 c32_i32_723
  let c1_i32_724 : BitVec 32 := 1#32
  ⟨c0_i32_722, v2264, c1_i32_724⟩
@[reducible] def k1_t23_loop : Scf.Loop 32 :=
  let c0_i32_748 : BitVec 32 := 0#32
  let c32_i32_749 : BitVec 32 := 32#32
  let v2345 : BitVec 32 := Scalar.addi c0_i32_748 c32_i32_749
  let c1_i32_750 : BitVec 32 := 1#32
  ⟨c0_i32_748, v2345, c1_i32_750⟩
@[reducible] def k1_t24_loop : Scf.Loop 32 :=
  let c0_i32_774 : BitVec 32 := 0#32
  let c32_i32_775 : BitVec 32 := 32#32
  let v2426 : BitVec 32 := Scalar.addi c0_i32_774 c32_i32_775
  let c1_i32_776 : BitVec 32 := 1#32
  ⟨c0_i32_774, v2426, c1_i32_776⟩
@[reducible] def k1_t25_loop : Scf.Loop 32 :=
  let c0_i32_800 : BitVec 32 := 0#32
  let c32_i32_801 : BitVec 32 := 32#32
  let v2507 : BitVec 32 := Scalar.addi c0_i32_800 c32_i32_801
  let c1_i32_802 : BitVec 32 := 1#32
  ⟨c0_i32_800, v2507, c1_i32_802⟩
@[reducible] def k1_t26_loop : Scf.Loop 32 :=
  let c0_i32_826 : BitVec 32 := 0#32
  let c32_i32_827 : BitVec 32 := 32#32
  let v2588 : BitVec 32 := Scalar.addi c0_i32_826 c32_i32_827
  let c1_i32_828 : BitVec 32 := 1#32
  ⟨c0_i32_826, v2588, c1_i32_828⟩
@[reducible] def k1_t27_loop : Scf.Loop 32 :=
  let c0_i32_852 : BitVec 32 := 0#32
  let c32_i32_853 : BitVec 32 := 32#32
  let v2669 : BitVec 32 := Scalar.addi c0_i32_852 c32_i32_853
  let c1_i32_854 : BitVec 32 := 1#32
  ⟨c0_i32_852, v2669, c1_i32_854⟩
@[reducible] def k1_t28_loop : Scf.Loop 32 :=
  let c0_i32_878 : BitVec 32 := 0#32
  let c32_i32_879 : BitVec 32 := 32#32
  let v2750 : BitVec 32 := Scalar.addi c0_i32_878 c32_i32_879
  let c1_i32_880 : BitVec 32 := 1#32
  ⟨c0_i32_878, v2750, c1_i32_880⟩
@[reducible] def k1_t29_loop : Scf.Loop 32 :=
  let c0_i32_904 : BitVec 32 := 0#32
  let c32_i32_905 : BitVec 32 := 32#32
  let v2831 : BitVec 32 := Scalar.addi c0_i32_904 c32_i32_905
  let c1_i32_906 : BitVec 32 := 1#32
  ⟨c0_i32_904, v2831, c1_i32_906⟩
@[reducible] def k1_t30_loop : Scf.Loop 32 :=
  let c0_i32_930 : BitVec 32 := 0#32
  let c32_i32_931 : BitVec 32 := 32#32
  let v2912 : BitVec 32 := Scalar.addi c0_i32_930 c32_i32_931
  let c1_i32_932 : BitVec 32 := 1#32
  ⟨c0_i32_930, v2912, c1_i32_932⟩
@[reducible] def k1_t31_loop : Scf.Loop 32 :=
  let c0_i32_956 : BitVec 32 := 0#32
  let c32_i32_957 : BitVec 32 := 32#32
  let v2993 : BitVec 32 := Scalar.addi c0_i32_956 c32_i32_957
  let c1_i32_958 : BitVec 32 := 1#32
  ⟨c0_i32_956, v2993, c1_i32_958⟩
@[reducible] def k1_t32_loop : Scf.Loop 32 :=
  let c0_i32_982 : BitVec 32 := 0#32
  let c32_i32_983 : BitVec 32 := 32#32
  let v3074 : BitVec 32 := Scalar.addi c0_i32_982 c32_i32_983
  let c1_i32_984 : BitVec 32 := 1#32
  ⟨c0_i32_982, v3074, c1_i32_984⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F] [Named F]
def κ : String → Option EReal := fun
  | "inv_two_sigma_sq" => some ((-1 / 18 : ℝ) : EReal)
  | _ => none
-- ==== ReferenceIdeal.lean ====
abbrev S2x96x64x64 : Shape := ⟨4, ![2, 96, 64, 64]⟩
abbrev S16x2x3 : Shape := ⟨3, ![16, 2, 3]⟩
abbrev S64x96 : Shape := ⟨2, ![64, 96]⟩
abbrev S64 : Shape := ⟨1, ![64]⟩
abbrev S128x64 : Shape := ⟨2, ![128, 64]⟩
abbrev S128 : Shape := ⟨1, ![128]⟩
abbrev S4096x1024 : Shape := ⟨2, ![4096, 1024]⟩
abbrev S4096x2 : Shape := ⟨2, ![4096, 2]⟩
abbrev S4096x1 : Shape := ⟨2, ![4096, 1]⟩
abbrev S4096 : Shape := ⟨1, ![4096]⟩
abbrev S1x4096 : Shape := ⟨2, ![1, 4096]⟩
abbrev S4096x4096 : Shape := ⟨2, ![4096, 4096]⟩
abbrev S_ : Shape := ⟨0, ![]⟩
abbrev S16x1x2x3 : Shape := ⟨4, ![16, 1, 2, 3]⟩
abbrev S16x2x2x3 : Shape := ⟨4, ![16, 2, 2, 3]⟩
abbrev S64x64 : Shape := ⟨2, ![64, 64]⟩
abbrev S64x64x1 : Shape := ⟨3, ![64, 64, 1]⟩
abbrev S64x64x3 : Shape := ⟨3, ![64, 64, 3]⟩
abbrev S16x2x2x64x64 : Shape := ⟨5, ![16, 2, 2, 64, 64]⟩
abbrev S16x2x64x64x2 : Shape := ⟨5, ![16, 2, 64, 64, 2]⟩
abbrev S16x2x64x64x1 : Shape := ⟨5, ![16, 2, 64, 64, 1]⟩
abbrev S16x2x64x64 : Shape := ⟨4, ![16, 2, 64, 64]⟩
abbrev S2x64x64x96 : Shape := ⟨4, ![2, 64, 64, 96]⟩
abbrev S2 : Shape := ⟨1, ![2]⟩
abbrev S2x1x1 : Shape := ⟨3, ![2, 1, 1]⟩
abbrev S2x64x64 : Shape := ⟨3, ![2, 64, 64]⟩
abbrev S2x64x64x1 : Shape := ⟨4, ![2, 64, 64, 1]⟩
abbrev S16x2x64x64x3 : Shape := ⟨5, ![16, 2, 64, 64, 3]⟩
abbrev S16x2x64x64x96 : Shape := ⟨5, ![16, 2, 64, 64, 96]⟩
abbrev S16x2x96x64x64 : Shape := ⟨5, ![16, 2, 96, 64, 64]⟩
abbrev S16x2x96x32x32 : Shape := ⟨5, ![16, 2, 96, 32, 32]⟩
abbrev S16x2x96x1024 : Shape := ⟨4, ![16, 2, 96, 1024]⟩
abbrev S16x2x1024x96 : Shape := ⟨4, ![16, 2, 1024, 96]⟩
abbrev S96x64 : Shape := ⟨2, ![96, 64]⟩
abbrev S16x2x1024x64 : Shape := ⟨4, ![16, 2, 1024, 64]⟩
abbrev S1x1x64 : Shape := ⟨3, ![1, 1, 64]⟩
abbrev S1x1x1x64 : Shape := ⟨4, ![1, 1, 1, 64]⟩
abbrev S64x128 : Shape := ⟨2, ![64, 128]⟩
abbrev S16x2x1024x128 : Shape := ⟨4, ![16, 2, 1024, 128]⟩
abbrev S1x1x128 : Shape := ⟨3, ![1, 1, 128]⟩
abbrev S1x1x1x128 : Shape := ⟨4, ![1, 1, 1, 128]⟩
abbrev S16x2x1024 : Shape := ⟨3, ![16, 2, 1024]⟩
abbrev S16x2x1024x1 : Shape := ⟨4, ![16, 2, 1024, 1]⟩
abbrev S2x16x1024x128 : Shape := ⟨4, ![2, 16, 1024, 128]⟩
abbrev S2x16x1024 : Shape := ⟨3, ![2, 16, 1024]⟩
abbrev S2x1024 : Shape := ⟨2, ![2, 1024]⟩
abbrev S2x1x1024 : Shape := ⟨3, ![2, 1, 1024]⟩
abbrev S2x16x1024x1 : Shape := ⟨4, ![2, 16, 1024, 1]⟩
abbrev S2x1024x128 : Shape := ⟨3, ![2, 1024, 128]⟩
abbrev S2x128x4096 : Shape := ⟨3, ![2, 128, 4096]⟩
abbrev S2x4096x128 : Shape := ⟨3, ![2, 4096, 128]⟩
abbrev S2x4096 : Shape := ⟨2, ![2, 4096]⟩
abbrev S2x4096x1 : Shape := ⟨3, ![2, 4096, 1]⟩
abbrev S2x4096x4096 : Shape := ⟨3, ![2, 4096, 4096]⟩
abbrev S1x4096x4096 : Shape := ⟨3, ![1, 4096, 4096]⟩
abbrev S2x4096x32 : Shape := ⟨3, ![2, 4096, 32]⟩
abbrev S1x4096x1 : Shape := ⟨3, ![1, 4096, 1]⟩
abbrev S2x4096x32x1 : Shape := ⟨4, ![2, 4096, 32, 1]⟩
abbrev S2x4096x32x3 : Shape := ⟨4, ![2, 4096, 32, 3]⟩

abbrev nBuf : Space → Nat
  | .hbm => 438
  | .vmem => 0
  | .smem => 0
  | _ => 0

abbrev hbmTy0_0 (i : Nat) : BufTy := match i % 128 with
  | 0 => ⟨S2x96x64x64, .f32⟩
  | 1 => ⟨S16x2x3, .f32⟩
  | 2 => ⟨S64x96, .f32⟩
  | 3 => ⟨S64, .f32⟩
  | 4 => ⟨S128x64, .f32⟩
  | 5 => ⟨S128, .f32⟩
  | 6 => ⟨S128, .f32⟩
  | 7 => ⟨S4096x1024, .f32⟩
  | 8 => ⟨S4096x2, .f32⟩
  | 9 => ⟨S4096x1, .f32⟩
  | 10 => ⟨S4096, .f32⟩
  | 11 => ⟨S4096x1, .f32⟩
  | 12 => ⟨S4096, .f32⟩
  | 13 => ⟨S4096x1, .f32⟩
  | 14 => ⟨S1x4096, .f32⟩
  | 15 => ⟨S4096x4096, .f32⟩
  | 16 => ⟨S4096x4096, .f32⟩
  | 17 => ⟨S4096x4096, .f32⟩
  | 18 => ⟨S4096x4096, .f32⟩
  | 19 => ⟨S4096x1, .f32⟩
  | 20 => ⟨S1x4096, .f32⟩
  | 21 => ⟨S4096x4096, .f32⟩
  | 22 => ⟨S4096x4096, .f32⟩
  | 23 => ⟨S4096x4096, .f32⟩
  | 24 => ⟨S4096x4096, .f32⟩
  | 25 => ⟨S4096x4096, .f32⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S16x1x2x3, .f32⟩
  | 35 => ⟨S16x2x2x3, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S64x64, .f32⟩
  | 63 => ⟨S64x64, .f32⟩
  | 64 => ⟨S_, .f32⟩
  | 65 => ⟨S64x64, .f32⟩
  | 66 => ⟨S64x64x1, .f32⟩
  | 67 => ⟨S64x64x1, .f32⟩
  | 68 => ⟨S64x64x1, .f32⟩
  | 69 => ⟨S64x64x3, .f32⟩
  | 70 => ⟨S16x2x2x64x64, .f32⟩
  | 71 => ⟨S16x2x64x64x2, .f32⟩
  | 72 => ⟨S16x2x64x64x1, .f32⟩
  | 73 => ⟨S16x2x64x64, .f32⟩
  | 74 => ⟨S16x2x64x64x1, .f32⟩
  | 75 => ⟨S16x2x64x64, .f32⟩
  | 76 => ⟨S_, .f32⟩
  | 77 => ⟨S16x2x64x64, .f32⟩
  | 78 => ⟨S16x2x64x64, .f32⟩
  | 79 => ⟨S_, .f32⟩
  | 80 => ⟨S16x2x64x64, .f32⟩
  | 81 => ⟨S16x2x64x64, .f32⟩
  | 82 => ⟨S_, .f32⟩
  | 83 => ⟨S16x2x64x64, .f32⟩
  | 84 => ⟨S16x2x64x64, .f32⟩
  | 85 => ⟨S_, .f32⟩
  | 86 => ⟨S16x2x64x64, .f32⟩
  | 87 => ⟨S16x2x64x64, .f32⟩
  | 88 => ⟨S_, .f32⟩
  | 89 => ⟨S_, .f32⟩
  | 90 => ⟨S_, .f32⟩
  | 91 => ⟨S16x2x64x64, .f32⟩
  | 92 => ⟨S16x2x64x64, .f32⟩
  | 93 => ⟨S_, .f32⟩
  | 94 => ⟨S16x2x64x64, .f32⟩
  | 95 => ⟨S16x2x64x64, .f32⟩
  | 96 => ⟨S_, .f32⟩
  | 97 => ⟨S16x2x64x64, .f32⟩
  | 98 => ⟨S16x2x64x64, .f32⟩
  | 99 => ⟨S_, .f32⟩
  | 100 => ⟨S16x2x64x64, .f32⟩
  | 101 => ⟨S16x2x64x64, .f32⟩
  | 102 => ⟨S_, .f32⟩
  | 103 => ⟨S16x2x64x64, .f32⟩
  | 104 => ⟨S16x2x64x64, .f32⟩
  | 105 => ⟨S_, .f32⟩
  | 106 => ⟨S16x2x64x64, .f32⟩
  | 107 => ⟨S16x2x64x64, .f32⟩
  | 108 => ⟨S_, .f32⟩
  | 109 => ⟨S_, .f32⟩
  | 110 => ⟨S_, .f32⟩
  | 111 => ⟨S16x2x64x64, .f32⟩
  | 112 => ⟨S16x2x64x64, .f32⟩
  | 113 => ⟨S_, .f32⟩
  | 114 => ⟨S16x2x64x64, .f32⟩
  | 115 => ⟨S16x2x64x64, .f32⟩
  | 116 => ⟨S16x2x64x64, .f32⟩
  | 117 => ⟨S16x2x64x64, .f32⟩
  | 118 => ⟨S_, .i32⟩
  | 119 => ⟨S_, .i32⟩
  | 120 => ⟨S_, .f32⟩
  | 121 => ⟨S16x2x64x64, .f32⟩
  | 122 => ⟨S16x2x64x64, .f32⟩
  | 123 => ⟨S_, .f32⟩
  | 124 => ⟨S16x2x64x64, .f32⟩
  | 125 => ⟨S16x2x64x64, .f32⟩
  | 126 => ⟨S16x2x64x64, .i32⟩
  | 127 => ⟨S_, .f32⟩
  | _ => ⟨S2x96x64x64, .f32⟩

abbrev hbmTy0_1 (i : Nat) : BufTy := match i % 128 with
  | 0 => ⟨S16x2x64x64, .f32⟩
  | 1 => ⟨S16x2x64x64, .f32⟩
  | 2 => ⟨S_, .i32⟩
  | 3 => ⟨S_, .i32⟩
  | 4 => ⟨S_, .f32⟩
  | 5 => ⟨S16x2x64x64, .f32⟩
  | 6 => ⟨S16x2x64x64, .f32⟩
  | 7 => ⟨S_, .f32⟩
  | 8 => ⟨S16x2x64x64, .f32⟩
  | 9 => ⟨S16x2x64x64, .f32⟩
  | 10 => ⟨S16x2x64x64, .i32⟩
  | 11 => ⟨S_, .i32⟩
  | 12 => ⟨S_, .i32⟩
  | 13 => ⟨S_, .f32⟩
  | 14 => ⟨S16x2x64x64, .f32⟩
  | 15 => ⟨S16x2x64x64, .f32⟩
  | 16 => ⟨S_, .f32⟩
  | 17 => ⟨S16x2x64x64, .f32⟩
  | 18 => ⟨S16x2x64x64, .f32⟩
  | 19 => ⟨S16x2x64x64, .i32⟩
  | 20 => ⟨S2x64x64x96, .f32⟩
  | 21 => ⟨S2, .i32⟩
  | 22 => ⟨S2x1x1, .i32⟩
  | 23 => ⟨S_, .i32⟩
  | 24 => ⟨S2x1x1, .i32⟩
  | 25 => ⟨S2x1x1, .i1⟩
  | 26 => ⟨S_, .i32⟩
  | 27 => ⟨S2x1x1, .i32⟩
  | 28 => ⟨S2x1x1, .i32⟩
  | 29 => ⟨S2x1x1, .i32⟩
  | 30 => ⟨S_, .i32⟩
  | 31 => ⟨S16x2x64x64, .i32⟩
  | 32 => ⟨S16x2x64x64, .i1⟩
  | 33 => ⟨S_, .i32⟩
  | 34 => ⟨S16x2x64x64, .i32⟩
  | 35 => ⟨S16x2x64x64, .i32⟩
  | 36 => ⟨S16x2x64x64, .i32⟩
  | 37 => ⟨S_, .i32⟩
  | 38 => ⟨S16x2x64x64, .i32⟩
  | 39 => ⟨S16x2x64x64, .i1⟩
  | 40 => ⟨S_, .i32⟩
  | 41 => ⟨S16x2x64x64, .i32⟩
  | 42 => ⟨S16x2x64x64, .i32⟩
  | 43 => ⟨S16x2x64x64, .i32⟩
  | 44 => ⟨S2x64x64, .i32⟩
  | 45 => ⟨S2x64x64x1, .i32⟩
  | 46 => ⟨S16x2x64x64x1, .i32⟩
  | 47 => ⟨S16x2x64x64x1, .i32⟩
  | 48 => ⟨S16x2x64x64x1, .i32⟩
  | 49 => ⟨S16x2x64x64x3, .i32⟩
  | 50 => ⟨S16x2x64x64x96, .f32⟩
  | 51 => ⟨S_, .i32⟩
  | 52 => ⟨S2x1x1, .i32⟩
  | 53 => ⟨S2x1x1, .i1⟩
  | 54 => ⟨S_, .i32⟩
  | 55 => ⟨S2x1x1, .i32⟩
  | 56 => ⟨S2x1x1, .i32⟩
  | 57 => ⟨S2x1x1, .i32⟩
  | 58 => ⟨S_, .i32⟩
  | 59 => ⟨S16x2x64x64, .i32⟩
  | 60 => ⟨S16x2x64x64, .i1⟩
  | 61 => ⟨S_, .i32⟩
  | 62 => ⟨S16x2x64x64, .i32⟩
  | 63 => ⟨S16x2x64x64, .i32⟩
  | 64 => ⟨S16x2x64x64, .i32⟩
  | 65 => ⟨S_, .i32⟩
  | 66 => ⟨S16x2x64x64, .i32⟩
  | 67 => ⟨S16x2x64x64, .i1⟩
  | 68 => ⟨S_, .i32⟩
  | 69 => ⟨S16x2x64x64, .i32⟩
  | 70 => ⟨S16x2x64x64, .i32⟩
  | 71 => ⟨S16x2x64x64, .i32⟩
  | 72 => ⟨S2x64x64, .i32⟩
  | 73 => ⟨S2x64x64x1, .i32⟩
  | 74 => ⟨S16x2x64x64x1, .i32⟩
  | 75 => ⟨S16x2x64x64x1, .i32⟩
  | 76 => ⟨S16x2x64x64x1, .i32⟩
  | 77 => ⟨S16x2x64x64x3, .i32⟩
  | 78 => ⟨S16x2x64x64x96, .f32⟩
  | 79 => ⟨S_, .f32⟩
  | 80 => ⟨S16x2x64x64, .f32⟩
  | 81 => ⟨S16x2x64x64, .f32⟩
  | 82 => ⟨S_, .i32⟩
  | 83 => ⟨S_, .i32⟩
  | 84 => ⟨S_, .f32⟩
  | 85 => ⟨S16x2x64x64, .f32⟩
  | 86 => ⟨S16x2x64x64, .f32⟩
  | 87 => ⟨S_, .f32⟩
  | 88 => ⟨S16x2x64x64, .f32⟩
  | 89 => ⟨S16x2x64x64, .f32⟩
  | 90 => ⟨S16x2x64x64, .i32⟩
  | 91 => ⟨S_, .i32⟩
  | 92 => ⟨S2x1x1, .i32⟩
  | 93 => ⟨S2x1x1, .i1⟩
  | 94 => ⟨S_, .i32⟩
  | 95 => ⟨S2x1x1, .i32⟩
  | 96 => ⟨S2x1x1, .i32⟩
  | 97 => ⟨S2x1x1, .i32⟩
  | 98 => ⟨S_, .i32⟩
  | 99 => ⟨S16x2x64x64, .i32⟩
  | 100 => ⟨S16x2x64x64, .i1⟩
  | 101 => ⟨S_, .i32⟩
  | 102 => ⟨S16x2x64x64, .i32⟩
  | 103 => ⟨S16x2x64x64, .i32⟩
  | 104 => ⟨S16x2x64x64, .i32⟩
  | 105 => ⟨S_, .i32⟩
  | 106 => ⟨S16x2x64x64, .i32⟩
  | 107 => ⟨S16x2x64x64, .i1⟩
  | 108 => ⟨S_, .i32⟩
  | 109 => ⟨S16x2x64x64, .i32⟩
  | 110 => ⟨S16x2x64x64, .i32⟩
  | 111 => ⟨S16x2x64x64, .i32⟩
  | 112 => ⟨S2x64x64, .i32⟩
  | 113 => ⟨S2x64x64x1, .i32⟩
  | 114 => ⟨S16x2x64x64x1, .i32⟩
  | 115 => ⟨S16x2x64x64x1, .i32⟩
  | 116 => ⟨S16x2x64x64x1, .i32⟩
  | 117 => ⟨S16x2x64x64x3, .i32⟩
  | 118 => ⟨S16x2x64x64x96, .f32⟩
  | 119 => ⟨S_, .i32⟩
  | 120 => ⟨S2x1x1, .i32⟩
  | 121 => ⟨S2x1x1, .i1⟩
  | 122 => ⟨S_, .i32⟩
  | 123 => ⟨S2x1x1, .i32⟩
  | 124 => ⟨S2x1x1, .i32⟩
  | 125 => ⟨S2x1x1, .i32⟩
  | 126 => ⟨S_, .i32⟩
  | 127 => ⟨S16x2x64x64, .i32⟩
  | _ => ⟨S2x96x64x64, .f32⟩

abbrev hbmTy0_2 (i : Nat) : BufTy := match i % 128 with
  | 0 => ⟨S16x2x64x64, .i1⟩
  | 1 => ⟨S_, .i32⟩
  | 2 => ⟨S16x2x64x64, .i32⟩
  | 3 => ⟨S16x2x64x64, .i32⟩
  | 4 => ⟨S16x2x64x64, .i32⟩
  | 5 => ⟨S_, .i32⟩
  | 6 => ⟨S16x2x64x64, .i32⟩
  | 7 => ⟨S16x2x64x64, .i1⟩
  | 8 => ⟨S_, .i32⟩
  | 9 => ⟨S16x2x64x64, .i32⟩
  | 10 => ⟨S16x2x64x64, .i32⟩
  | 11 => ⟨S16x2x64x64, .i32⟩
  | 12 => ⟨S2x64x64, .i32⟩
  | 13 => ⟨S2x64x64x1, .i32⟩
  | 14 => ⟨S16x2x64x64x1, .i32⟩
  | 15 => ⟨S16x2x64x64x1, .i32⟩
  | 16 => ⟨S16x2x64x64x1, .i32⟩
  | 17 => ⟨S16x2x64x64x3, .i32⟩
  | 18 => ⟨S16x2x64x64x96, .f32⟩
  | 19 => ⟨S16x2x64x64, .f32⟩
  | 20 => ⟨S16x2x64x64, .f32⟩
  | 21 => ⟨S16x2x64x64x1, .f32⟩
  | 22 => ⟨S16x2x64x64x1, .f32⟩
  | 23 => ⟨S_, .f32⟩
  | 24 => ⟨S16x2x64x64x1, .f32⟩
  | 25 => ⟨S16x2x64x64x1, .f32⟩
  | 26 => ⟨S16x2x64x64x96, .f32⟩
  | 27 => ⟨S16x2x64x64x96, .f32⟩
  | 28 => ⟨S_, .f32⟩
  | 29 => ⟨S16x2x64x64x1, .f32⟩
  | 30 => ⟨S16x2x64x64x1, .f32⟩
  | 31 => ⟨S16x2x64x64x96, .f32⟩
  | 32 => ⟨S16x2x64x64x96, .f32⟩
  | 33 => ⟨S16x2x64x64x96, .f32⟩
  | 34 => ⟨S16x2x64x64x96, .f32⟩
  | 35 => ⟨S_, .f32⟩
  | 36 => ⟨S16x2x64x64x1, .f32⟩
  | 37 => ⟨S16x2x64x64x1, .f32⟩
  | 38 => ⟨S16x2x64x64x96, .f32⟩
  | 39 => ⟨S16x2x64x64x96, .f32⟩
  | 40 => ⟨S16x2x64x64x96, .f32⟩
  | 41 => ⟨S_, .f32⟩
  | 42 => ⟨S16x2x64x64x1, .f32⟩
  | 43 => ⟨S16x2x64x64x1, .f32⟩
  | 44 => ⟨S16x2x64x64x96, .f32⟩
  | 45 => ⟨S16x2x64x64x96, .f32⟩
  | 46 => ⟨S16x2x64x64x96, .f32⟩
  | 47 => ⟨S16x2x64x64x96, .f32⟩
  | 48 => ⟨S16x2x64x64x96, .f32⟩
  | 49 => ⟨S16x2x64x64x96, .f32⟩
  | 50 => ⟨S16x2x64x64x96, .f32⟩
  | 51 => ⟨S16x2x64x64x96, .f32⟩
  | 52 => ⟨S16x2x64x64x96, .f32⟩
  | 53 => ⟨S16x2x64x64x96, .f32⟩
  | 54 => ⟨S16x2x96x64x64, .f32⟩
  | 55 => ⟨S_, .f32⟩
  | 56 => ⟨S_, .f32⟩
  | 57 => ⟨S16x2x96x32x32, .f32⟩
  | 58 => ⟨S_, .f32⟩
  | 59 => ⟨S16x2x96x32x32, .f32⟩
  | 60 => ⟨S16x2x96x32x32, .f32⟩
  | 61 => ⟨S16x2x96x1024, .f32⟩
  | 62 => ⟨S16x2x1024x96, .f32⟩
  | 63 => ⟨S96x64, .f32⟩
  | 64 => ⟨S16x2x1024x64, .f32⟩
  | 65 => ⟨S1x1x64, .f32⟩
  | 66 => ⟨S1x1x1x64, .f32⟩
  | 67 => ⟨S16x2x1024x64, .f32⟩
  | 68 => ⟨S16x2x1024x64, .f32⟩
  | 69 => ⟨S64x128, .f32⟩
  | 70 => ⟨S16x2x1024x128, .f32⟩
  | 71 => ⟨S1x1x128, .f32⟩
  | 72 => ⟨S1x1x1x128, .f32⟩
  | 73 => ⟨S16x2x1024x128, .f32⟩
  | 74 => ⟨S16x2x1024x128, .f32⟩
  | 75 => ⟨S16x2x1024x128, .f32⟩
  | 76 => ⟨S_, .f32⟩
  | 77 => ⟨S16x2x1024, .f32⟩
  | 78 => ⟨S16x2x1024x1, .f32⟩
  | 79 => ⟨S16x2x1024x1, .f32⟩
  | 80 => ⟨S_, .f32⟩
  | 81 => ⟨S16x2x1024x1, .f32⟩
  | 82 => ⟨S16x2x1024x1, .f32⟩
  | 83 => ⟨S16x2x1024x128, .f32⟩
  | 84 => ⟨S16x2x1024x128, .f32⟩
  | 85 => ⟨S2x16x1024x128, .f32⟩
  | 86 => ⟨S1x1x1x128, .f32⟩
  | 87 => ⟨S2x16x1024x128, .f32⟩
  | 88 => ⟨S2x16x1024x128, .f32⟩
  | 89 => ⟨S_, .f32⟩
  | 90 => ⟨S2x16x1024, .f32⟩
  | 91 => ⟨S_, .f32⟩
  | 92 => ⟨S2x16x1024, .f32⟩
  | 93 => ⟨S2x16x1024, .f32⟩
  | 94 => ⟨S_, .f32⟩
  | 95 => ⟨S2x1024, .f32⟩
  | 96 => ⟨S_, .f32⟩
  | 97 => ⟨S2x1024, .f32⟩
  | 98 => ⟨S2x1024, .f32⟩
  | 99 => ⟨S2x1x1024, .f32⟩
  | 100 => ⟨S2x16x1024, .f32⟩
  | 101 => ⟨S2x16x1024, .f32⟩
  | 102 => ⟨S2x16x1024, .f32⟩
  | 103 => ⟨S_, .f32⟩
  | 104 => ⟨S2x1024, .f32⟩
  | 105 => ⟨S2x1x1024, .f32⟩
  | 106 => ⟨S2x16x1024, .f32⟩
  | 107 => ⟨S2x16x1024, .f32⟩
  | 108 => ⟨S2x16x1024x1, .f32⟩
  | 109 => ⟨S2x16x1024x128, .f32⟩
  | 110 => ⟨S2x16x1024x128, .f32⟩
  | 111 => ⟨S_, .f32⟩
  | 112 => ⟨S2x1024x128, .f32⟩
  | 113 => ⟨S2x128x4096, .f32⟩
  | 114 => ⟨S2x4096x128, .f32⟩
  | 115 => ⟨S2x4096x128, .f32⟩
  | 116 => ⟨S_, .f32⟩
  | 117 => ⟨S2x4096, .f32⟩
  | 118 => ⟨S2x4096x1, .f32⟩
  | 119 => ⟨S2x4096x1, .f32⟩
  | 120 => ⟨S_, .f32⟩
  | 121 => ⟨S2x4096x1, .f32⟩
  | 122 => ⟨S2x4096x1, .f32⟩
  | 123 => ⟨S2x4096x128, .f32⟩
  | 124 => ⟨S2x4096x128, .f32⟩
  | 125 => ⟨S2x4096x4096, .f32⟩
  | 126 => ⟨S1x4096x4096, .f32⟩
  | 127 => ⟨S2x4096x4096, .f32⟩
  | _ => ⟨S2x96x64x64, .f32⟩

abbrev hbmTy0_3 (i : Nat) : BufTy := match i % 128 with
  | 0 => ⟨S2x4096x4096, .f32⟩
  | 1 => ⟨S2x4096x32, .f32⟩
  | 2 => ⟨S2x4096x32, .i32⟩
  | 3 => ⟨S_, .f32⟩
  | 4 => ⟨S2x4096x32, .f32⟩
  | 5 => ⟨S2x4096x32, .f32⟩
  | 6 => ⟨S_, .f32⟩
  | 7 => ⟨S2x4096, .f32⟩
  | 8 => ⟨S_, .f32⟩
  | 9 => ⟨S2x4096, .f32⟩
  | 10 => ⟨S2x4096, .f32⟩
  | 11 => ⟨S2x4096x1, .f32⟩
  | 12 => ⟨S2x4096x32, .f32⟩
  | 13 => ⟨S2x4096x32, .f32⟩
  | 14 => ⟨S2x4096x32, .f32⟩
  | 15 => ⟨S_, .f32⟩
  | 16 => ⟨S2x4096, .f32⟩
  | 17 => ⟨S2x4096x1, .f32⟩
  | 18 => ⟨S2x4096x32, .f32⟩
  | 19 => ⟨S2x4096x32, .f32⟩
  | 20 => ⟨S2, .i32⟩
  | 21 => ⟨S2x1x1, .i32⟩
  | 22 => ⟨S4096, .i32⟩
  | 23 => ⟨S1x4096x1, .i32⟩
  | 24 => ⟨S_, .f32⟩
  | 25 => ⟨S2x4096x4096, .f32⟩
  | 26 => ⟨S_, .i32⟩
  | 27 => ⟨S2x1x1, .i32⟩
  | 28 => ⟨S2x1x1, .i1⟩
  | 29 => ⟨S_, .i32⟩
  | 30 => ⟨S2x1x1, .i32⟩
  | 31 => ⟨S2x1x1, .i32⟩
  | 32 => ⟨S2x1x1, .i32⟩
  | 33 => ⟨S_, .i32⟩
  | 34 => ⟨S1x4096x1, .i32⟩
  | 35 => ⟨S1x4096x1, .i1⟩
  | 36 => ⟨S_, .i32⟩
  | 37 => ⟨S1x4096x1, .i32⟩
  | 38 => ⟨S1x4096x1, .i32⟩
  | 39 => ⟨S1x4096x1, .i32⟩
  | 40 => ⟨S_, .i32⟩
  | 41 => ⟨S2x4096x32, .i32⟩
  | 42 => ⟨S2x4096x32, .i1⟩
  | 43 => ⟨S_, .i32⟩
  | 44 => ⟨S2x4096x32, .i32⟩
  | 45 => ⟨S2x4096x32, .i32⟩
  | 46 => ⟨S2x4096x32, .i32⟩
  | 47 => ⟨S2x4096x32, .i32⟩
  | 48 => ⟨S2x4096x32, .i32⟩
  | 49 => ⟨S2x4096x32x1, .i32⟩
  | 50 => ⟨S2x4096x32x1, .i32⟩
  | 51 => ⟨S2x4096x32x1, .i32⟩
  | 52 => ⟨S2x4096x32x3, .i32⟩
  | 53 => ⟨S2x4096x4096, .f32⟩
  | _ => ⟨S2x96x64x64, .f32⟩

abbrev hbmTy (i : Nat) : BufTy := match i / 128 with
  | 0 => hbmTy0_0 i
  | 1 => hbmTy0_1 i
  | 2 => hbmTy0_2 i
  | 3 => hbmTy0_3 i
  | _ => ⟨S2x96x64x64, .f32⟩

abbrev bufTy : (tb : Table) → Fin (tcTables nBuf tb) → BufTy
  | .hbm, ⟨i, _⟩ => hbmTy i
  | _, _ => ⟨S2x96x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_cst_15 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_v64 : Ref sig .tc := ⟨.hbm, 95, rfl⟩
abbrev main_cst_16 : Ref sig .tc := ⟨.hbm, 96, rfl⟩
abbrev main_v65 : Ref sig .tc := ⟨.hbm, 97, rfl⟩
abbrev main_v66 : Ref sig .tc := ⟨.hbm, 98, rfl⟩
abbrev main_cst_17 : Ref sig .tc := ⟨.hbm, 99, rfl⟩
abbrev main_v67 : Ref sig .tc := ⟨.hbm, 100, rfl⟩
abbrev main_v68 : Ref sig .tc := ⟨.hbm, 101, rfl⟩
abbrev main_cst_18 : Ref sig .tc := ⟨.hbm, 102, rfl⟩
abbrev main_v69 : Ref sig .tc := ⟨.hbm, 103, rfl⟩
abbrev main_v70 : Ref sig .tc := ⟨.hbm, 104, rfl⟩
abbrev main_cst_19 : Ref sig .tc := ⟨.hbm, 105, rfl⟩
abbrev main_v71 : Ref sig .tc := ⟨.hbm, 106, rfl⟩
abbrev main_v72 : Ref sig .tc := ⟨.hbm, 107, rfl⟩
abbrev main_cst_20 : Ref sig .tc := ⟨.hbm, 108, rfl⟩
abbrev main_cst_21 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c : Ref sig .tc := ⟨.hbm, 118, rfl⟩
abbrev main_c_22 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v76 : Ref sig .tc := ⟨.hbm, 125, rfl⟩
abbrev main_v77 : Ref sig .tc := ⟨.hbm, 126, rfl⟩
abbrev main_cst_23 : Ref sig .tc := ⟨.hbm, 127, rfl⟩
abbrev main_v78 : Ref sig .tc := ⟨.hbm, 128, rfl⟩
abbrev main_v79 : Ref sig .tc := ⟨.hbm, 129, rfl⟩
abbrev main_c_24 : Ref sig .tc := ⟨.hbm, 130, rfl⟩
abbrev main_c_25 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v80 : Ref sig .tc := ⟨.hbm, 137, rfl⟩
abbrev main_v81 : Ref sig .tc := ⟨.hbm, 138, rfl⟩
abbrev main_c_26 : Ref sig .tc := ⟨.hbm, 139, rfl⟩
abbrev main_c_27 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_c_28 : Ref sig .tc := ⟨.hbm, 151, rfl⟩
abbrev main_v87 : Ref sig .tc := ⟨.hbm, 152, rfl⟩
abbrev main_v88 : Ref sig .tc := ⟨.hbm, 153, rfl⟩
abbrev main_c_29 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_c_30 : Ref sig .tc := ⟨.hbm, 158, rfl⟩
abbrev main_v92 : Ref sig .tc := ⟨.hbm, 159, rfl⟩
abbrev main_v93 : Ref sig .tc := ⟨.hbm, 160, rfl⟩
abbrev main_c_31 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_c_32 : Ref sig .tc := ⟨.hbm, 165, rfl⟩
abbrev main_v97 : Ref sig .tc := ⟨.hbm, 166, rfl⟩
abbrev main_v98 : Ref sig .tc := ⟨.hbm, 167, rfl⟩
abbrev main_c_33 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_c_34 : Ref sig .tc := ⟨.hbm, 179, rfl⟩
abbrev main_v109 : Ref sig .tc := ⟨.hbm, 180, rfl⟩
abbrev main_v110 : Ref sig .tc := ⟨.hbm, 181, rfl⟩
abbrev main_c_35 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_c_36 : Ref sig .tc := ⟨.hbm, 186, rfl⟩
abbrev main_v114 : Ref sig .tc := ⟨.hbm, 187, rfl⟩
abbrev main_v115 : Ref sig .tc := ⟨.hbm, 188, rfl⟩
abbrev main_c_37 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_c_38 : Ref sig .tc := ⟨.hbm, 193, rfl⟩
abbrev main_v119 : Ref sig .tc := ⟨.hbm, 194, rfl⟩
abbrev main_v120 : Ref sig .tc := ⟨.hbm, 195, rfl⟩
abbrev main_c_39 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_cst_40 : Ref sig .tc := ⟨.hbm, 207, rfl⟩
abbrev main_v131 : Ref sig .tc := ⟨.hbm, 208, rfl⟩
abbrev main_v132 : Ref sig .tc := ⟨.hbm, 209, rfl⟩
abbrev main_c_41 : Ref sig .tc := ⟨.hbm, 210, rfl⟩
abbrev main_c_42 : Ref sig .tc := ⟨.hbm, 211, rfl⟩
abbrev main_call5_v0 : Ref sig .tc := ⟨.hbm, 212, rfl⟩
abbrev main_call5_v1 : Ref sig .tc := ⟨.hbm, 213, rfl⟩
abbrev main_call5_v2 : Ref sig .tc := ⟨.hbm, 214, rfl⟩
abbrev main_call5_v3 : Ref sig .tc := ⟨.hbm, 215, rfl⟩
abbrev main_call5_v4 : Ref sig .tc := ⟨.hbm, 216, rfl⟩
abbrev main_v133 : Ref sig .tc := ⟨.hbm, 217, rfl⟩
abbrev main_v134 : Ref sig .tc := ⟨.hbm, 218, rfl⟩
abbrev main_c_43 : Ref sig .tc := ⟨.hbm, 219, rfl⟩
abbrev main_v135 : Ref sig .tc := ⟨.hbm, 220, rfl⟩
abbrev main_v136 : Ref sig .tc := ⟨.hbm, 221, rfl⟩
abbrev main_c_44 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_c_45 : Ref sig .tc := ⟨.hbm, 226, rfl⟩
abbrev main_v140 : Ref sig .tc := ⟨.hbm, 227, rfl⟩
abbrev main_v141 : Ref sig .tc := ⟨.hbm, 228, rfl⟩
abbrev main_c_46 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_c_47 : Ref sig .tc := ⟨.hbm, 233, rfl⟩
abbrev main_v145 : Ref sig .tc := ⟨.hbm, 234, rfl⟩
abbrev main_v146 : Ref sig .tc := ⟨.hbm, 235, rfl⟩
abbrev main_c_48 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_c_49 : Ref sig .tc := ⟨.hbm, 247, rfl⟩
abbrev main_v157 : Ref sig .tc := ⟨.hbm, 248, rfl⟩
abbrev main_v158 : Ref sig .tc := ⟨.hbm, 249, rfl⟩
abbrev main_c_50 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_c_51 : Ref sig .tc := ⟨.hbm, 254, rfl⟩
abbrev main_v162 : Ref sig .tc := ⟨.hbm, 255, rfl⟩
abbrev main_v163 : Ref sig .tc := ⟨.hbm, 256, rfl⟩
abbrev main_c_52 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_c_53 : Ref sig .tc := ⟨.hbm, 261, rfl⟩
abbrev main_v167 : Ref sig .tc := ⟨.hbm, 262, rfl⟩
abbrev main_v168 : Ref sig .tc := ⟨.hbm, 263, rfl⟩
abbrev main_c_54 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_cst_55 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_cst_56 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_cst_57 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_cst_58 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_cst_59 : Ref sig .tc := ⟨.hbm, 311, rfl⟩
abbrev main_v211 : Ref sig .tc := ⟨.hbm, 312, rfl⟩
abbrev main_v212 : Ref sig .tc := ⟨.hbm, 313, rfl⟩
abbrev main_cst_60 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_call6_v0 : Ref sig .tc := ⟨.hbm, 331, rfl⟩
abbrev main_call6_cst : Ref sig .tc := ⟨.hbm, 332, rfl⟩
abbrev main_call6_v1 : Ref sig .tc := ⟨.hbm, 333, rfl⟩
abbrev main_call6_v2 : Ref sig .tc := ⟨.hbm, 334, rfl⟩
abbrev main_v229 : Ref sig .tc := ⟨.hbm, 335, rfl⟩
abbrev main_cst_61 : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_cst_62 : Ref sig .tc := ⟨.hbm, 345, rfl⟩
abbrev main_v238 : Ref sig .tc := ⟨.hbm, 346, rfl⟩
abbrev main_cst_63 : Ref sig .tc := ⟨.hbm, 347, rfl⟩
abbrev main_v239 : Ref sig .tc := ⟨.hbm, 348, rfl⟩
abbrev main_v240 : Ref sig .tc := ⟨.hbm, 349, rfl⟩
abbrev main_cst_64 : Ref sig .tc := ⟨.hbm, 350, rfl⟩
abbrev main_v241 : Ref sig .tc := ⟨.hbm, 351, rfl⟩
abbrev main_cst_65 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_cst_66 : Ref sig .tc := ⟨.hbm, 359, rfl⟩
abbrev main_v248 : Ref sig .tc := ⟨.hbm, 360, rfl⟩
abbrev main_v249 : Ref sig .tc := ⟨.hbm, 361, rfl⟩
abbrev main_v250 : Ref sig .tc := ⟨.hbm, 362, rfl⟩
abbrev main_v251 : Ref sig .tc := ⟨.hbm, 363, rfl⟩
abbrev main_v252 : Ref sig .tc := ⟨.hbm, 364, rfl⟩
abbrev main_v253 : Ref sig .tc := ⟨.hbm, 365, rfl⟩
abbrev main_v254 : Ref sig .tc := ⟨.hbm, 366, rfl⟩
abbrev main_cst_67 : Ref sig .tc := ⟨.hbm, 367, rfl⟩
abbrev main_v255 : Ref sig .tc := ⟨.hbm, 368, rfl⟩
abbrev main_v256 : Ref sig .tc := ⟨.hbm, 369, rfl⟩
abbrev main_v257 : Ref sig .tc := ⟨.hbm, 370, rfl⟩
abbrev main_call7_v0 : Ref sig .tc := ⟨.hbm, 371, rfl⟩
abbrev main_call7_cst : Ref sig .tc := ⟨.hbm, 372, rfl⟩
abbrev main_call7_v1 : Ref sig .tc := ⟨.hbm, 373, rfl⟩
abbrev main_call7_v2 : Ref sig .tc := ⟨.hbm, 374, rfl⟩
abbrev main_v258 : Ref sig .tc := ⟨.hbm, 375, rfl⟩
abbrev main_cst_68 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_v264 : Ref sig .tc := ⟨.hbm, 382, rfl⟩
abbrev main_v265 : Ref sig .tc := ⟨.hbm, 383, rfl⟩
abbrev main_v266 : Ref sig .tc := ⟨.hbm, 384, rfl⟩
abbrev main_values : Ref sig .tc := ⟨.hbm, 385, rfl⟩
abbrev main_indices : Ref sig .tc := ⟨.hbm, 386, rfl⟩
abbrev main_cst_69 : Ref sig .tc := ⟨.hbm, 387, rfl⟩
abbrev main_v267 : Ref sig .tc := ⟨.hbm, 388, rfl⟩
abbrev main_v268 : Ref sig .tc := ⟨.hbm, 389, rfl⟩
abbrev main_cst_70 : Ref sig .tc := ⟨.hbm, 390, rfl⟩
abbrev main_v269 : Ref sig .tc := ⟨.hbm, 391, rfl⟩
abbrev main_cst_71 : Ref sig .tc := ⟨.hbm, 392, rfl⟩
abbrev main_v270 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_v275 : Ref sig .tc := ⟨.hbm, 398, rfl⟩
abbrev main_cst_72 : Ref sig .tc := ⟨.hbm, 399, rfl⟩
abbrev main_v276 : Ref sig .tc := ⟨.hbm, 400, rfl⟩
abbrev main_v277 : Ref sig .tc := ⟨.hbm, 401, rfl⟩
abbrev main_v278 : Ref sig .tc := ⟨.hbm, 402, rfl⟩
abbrev main_v279 : Ref sig .tc := ⟨.hbm, 403, rfl⟩
abbrev main_v280 : Ref sig .tc := ⟨.hbm, 404, rfl⟩
abbrev main_v281 : Ref sig .tc := ⟨.hbm, 405, rfl⟩
abbrev main_v282 : Ref sig .tc := ⟨.hbm, 406, rfl⟩
abbrev main_v283 : Ref sig .tc := ⟨.hbm, 407, rfl⟩
abbrev main_cst_73 : Ref sig .tc := ⟨.hbm, 408, rfl⟩
abbrev main_v284 : Ref sig .tc := ⟨.hbm, 409, rfl⟩
abbrev main_c_74 : Ref sig .tc := ⟨.hbm, 410, rfl⟩
abbrev main_v285 : Ref sig .tc := ⟨.hbm, 411, rfl⟩
abbrev main_v286 : Ref sig .tc := ⟨.hbm, 412, rfl⟩
abbrev main_c_75 : Ref sig .tc := ⟨.hbm, 413, rfl⟩
abbrev main_v287 : Ref sig .tc := ⟨.hbm, 414, rfl⟩
abbrev main_v288 : Ref sig .tc := ⟨.hbm, 415, rfl⟩
abbrev main_v289 : Ref sig .tc := ⟨.hbm, 416, rfl⟩
abbrev main_c_76 : Ref sig .tc := ⟨.hbm, 417, rfl⟩
abbrev main_v290 : Ref sig .tc := ⟨.hbm, 418, rfl⟩
abbrev main_v291 : Ref sig .tc := ⟨.hbm, 419, rfl⟩
abbrev main_c_77 : Ref sig .tc := ⟨.hbm, 420, rfl⟩
abbrev main_v292 : Ref sig .tc := ⟨.hbm, 421, rfl⟩
abbrev main_v293 : Ref sig .tc := ⟨.hbm, 422, rfl⟩
abbrev main_v294 : Ref sig .tc := ⟨.hbm, 423, rfl⟩
abbrev main_c_78 : Ref sig .tc := ⟨.hbm, 424, rfl⟩
abbrev main_v295 : Ref sig .tc := ⟨.hbm, 425, rfl⟩
abbrev main_v296 : Ref sig .tc := ⟨.hbm, 426, rfl⟩
abbrev main_c_79 : Ref sig .tc := ⟨.hbm, 427, rfl⟩
abbrev main_v297 : Ref sig .tc := ⟨.hbm, 428, rfl⟩
abbrev main_v298 : Ref sig .tc := ⟨.hbm, 429, rfl⟩
abbrev main_v299 : Ref sig .tc := ⟨.hbm, 430, rfl⟩
abbrev main_v300 : Ref sig .tc := ⟨.hbm, 431, rfl⟩
abbrev main_v301 : Ref sig .tc := ⟨.hbm, 432, rfl⟩
abbrev main_v302 : Ref sig .tc := ⟨.hbm, 433, rfl⟩
abbrev main_v303 : Ref sig .tc := ⟨.hbm, 434, rfl⟩
abbrev main_v304 : Ref sig .tc := ⟨.hbm, 435, rfl⟩
abbrev main_v305 : Ref sig .tc := ⟨.hbm, 436, rfl⟩
abbrev main_v306 : Ref sig .tc := ⟨.hbm, 437, rfl⟩

abbrev nD : Nat := 1
abbrev τ : Topo := Topo.v7x

variable {F : FTy → Type} [FloatOps F]
-- ==== Proof.RefRun.lean ====
module

public import proofs.«01_k».proof.Proof.Gen.ReferenceIdeal.Run
public import proofs.«01_k».proof.Proof.Gen.ReferenceIdeal.Read

@[expose] public section

set_option maxRecDepth 16384

/-! The reference's run, its results named by the stages, and the stages of equal arguments. -/

noncomputable section

namespace Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg)

/-- Argument `r` as launched on device `c`. -/
abbrev arg (c : Dev nD) (r : Ref sig .tc) : Buf (Elt Ideal) ((c.tc : Thread nD τ).loc r) := m ((c.tc : Thread nD τ).loc r)

theorem run : θ_run defs (onTc (τ := τ) (main (F := Ideal))) ⟨m, fun _ => 0, ρ⟩ fun r => ∀ c : Dev nD,
      r.2.mem ((c.tc : Thread nD τ).loc main_v262) = val_main_v262 (F := Ideal) (arg m c main_arg0) (arg m c main_arg1) (arg m c main_arg2)
        (arg m c main_arg3) (arg m c main_arg4) (arg m c main_arg5) (arg m c main_arg6) (arg m c main_arg7)
      ∧ r.2.mem ((c.tc : Thread nD τ).loc main_v306) = val_main_v306 (F := Ideal) (arg m c main_arg0) (arg m c main_arg1) (arg m c main_arg2)
        (arg m c main_arg3) (arg m c main_arg4) (arg m c main_arg5) (arg m c main_arg6) (arg m c main_arg7) (arg m c main_arg8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (val_main_v262_eq (launchContents m c)),
      (h c).2.1.trans (val_main_v306_eq (launchContents m c)), (h c).2.2⟩) (Cert.ReferenceIdeal.Value.run (F := Ideal) m ρ)

variable {x0 y0 : FVec Ideal S2x96x64x64 .f32} {x1 y1 : FVec Ideal S16x2x3 .f32} {x2 y2 : FVec Ideal S64x96 .f32} {x3 y3 : FVec Ideal S64 .f32}
  {x4 y4 : FVec Ideal S128x64 .f32} {x5 y5 x6 y6 : FVec Ideal S128 .f32} {x7 y7 : FVec Ideal S4096x1024 .f32} {x8 y8 : FVec Ideal S4096x2 .f32}

theorem embed_congr (h0 : x0 = y0) (h1 : x1 = y1) (h2 : x2 = y2) (h3 : x3 = y3) (h4 : x4 = y4) (h5 : x5 = y5) (h6 : x6 = y6) (h7 : x7 = y7) :
    val_main_v262 (F := Ideal) x0 x1 x2 x3 x4 x5 x6 x7 = val_main_v262 (F := Ideal) y0 y1 y2 y3 y4 y5 y6 y7 := by
  subst h0 h1 h2 h3 h4 h5 h6 h7; rfl

theorem affinity_congr (h0 : x0 = y0) (h1 : x1 = y1) (h2 : x2 = y2) (h3 : x3 = y3) (h4 : x4 = y4) (h5 : x5 = y5) (h6 : x6 = y6) (h7 : x7 = y7)
    (h8 : x8 = y8) : val_main_v306 (F := Ideal) x0 x1 x2 x3 x4 x5 x6 x7 x8 = val_main_v306 (F := Ideal) y0 y1 y2 y3 y4 y5 y6 y7 y8 := by
  subst h0 h1 h2 h3 h4 h5 h6 h7 h8; rfl

end Cert.ReferenceIdeal.Read
-- ==== Proof.KernelRun.lean ====
module

public import proofs.«01_k».proof.Proof.Gen.KernelIdeal.Frame

@[expose] public section

set_option maxRecDepth 16384

/-! The kernel's run with its results: each result array ends at the contents the last region leaves, the arguments
unchanged. -/

noncomputable section

namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the two result arrays at the contents after the last region and the arguments as launched. -/
theorem run : θ_run defs (onTc (τ := τ) (main (F := F))) ⟨m, fun _ => 0, ρ⟩ (fun r => ∀ c : Dev nD,
      r.2.mem ((c.tc : Thread nD τ).loc main_v196) = W17 m ρ c (Proc.devRef .tc main_v196)
      ∧ r.2.mem ((c.tc : Thread nD τ).loc main_v197) = W17 m ρ c (Proc.devRef .tc main_v197)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ c =>
      ⟨h c _ (mem_uc main_v196 (by decide)), h c _ (mem_uc main_v197 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c)⟩)

end Cert.KernelIdeal.Gen
-- ==== Proof.Sampling.lean ====
module

public import proofs.«01_k».proof.Proof.Gen.KernelIdeal
public import proofs.«01_k».proof.Proof.Gen.ReferenceIdeal
public import Idealize.ShloMosaic.Lib.Pointwise

@[expose] public section

set_option maxRecDepth 16384

/-! The two programs' reads of the feature map at computed pixels, and their window sums, each stated at an index. -/

noncomputable section

namespace Cert.Sampling
open Idealize.ShloMosaic Finset

variable {α : Type}

/-- The pixel coordinate that a word stands for: its signed value, brought into the range of the image. -/
def pixel (w : BitVec 32) : Fin 64 := ⟨min w.toInt.toNat 63, by omega⟩

/-- The batch entry that a word stands for, of two. -/
def entry (w : BitVec 32) : Fin 2 := ⟨min w.toInt.toNat 1, by omega⟩

/-- The kernel's read of the feature map: the row and the column are the two words of the pair, batch entry and channel
are kept. -/
theorem pair_apply (f : KernelIdeal.S2x64x64x96.Idx → α) (w : IVec KernelIdeal.S16x64x64x2 32) (k : Fin 16) (b : Fin 2) (y x : Fin 64) (c : Fin 96) :
    Host.gather KernelIdeal.gather_S2x64x64x96_S16x64x64x2_S16x2x64x64x96_14_12_n_n_12_3_21196 f w (ix5 k b y x c) =
      f (ix4 b (pixel (w (ix4 k y x 0))) (pixel (w (ix4 k y x 1))) c) := by
  unfold Host.gather
  refine congrArg f (funext fun a => Fin.ext ?_)
  match a with
  | ⟨0, _⟩ => exact (show 0 + 0 + b.val = b.val by omega)
  | ⟨1, _⟩ =>
    show min (w _).toInt.toNat _ + 0 + 0 = min (w _).toInt.toNat 63
    refine congrArg (fun i => min (w i).toInt.toNat 63) (funext fun a => ?_)
    match a with | ⟨0, _⟩ => rfl | ⟨1, _⟩ => rfl | ⟨2, _⟩ => rfl | ⟨3, _⟩ => rfl
  | ⟨2, _⟩ =>
    show min (w _).toInt.toNat _ + 0 + 0 = min (w _).toInt.toNat 63
    refine congrArg (fun i => min (w i).toInt.toNat 63) (funext fun a => ?_)
    match a with | ⟨0, _⟩ => rfl | ⟨1, _⟩ => rfl | ⟨2, _⟩ => rfl | ⟨3, _⟩ => rfl
  | ⟨3, _⟩ => exact (show 0 + 0 + c.val = c.val by omega)

/-- The reference's read of the feature map: batch entry, row and column are the three words of the triple, the channel is
kept. -/
theorem triple_apply (f : ReferenceIdeal.S2x64x64x96.Idx → α) (w : IVec ReferenceIdeal.S16x2x64x64x3 32) (k : Fin 16) (b : Fin 2) (y x : Fin 64)
    (c : Fin 96) : Host.gather ReferenceIdeal.gather_S2x64x64x96_S16x2x64x64x3_S16x2x64x64x96_4_012_n_n_012_4_11196 f w (ix5 k b y x c) =
      f (ix4 (entry (w (ix5 k b y x 0))) (pixel (w (ix5 k b y x 1))) (pixel (w (ix5 k b y x 2))) c) := by
  unfold Host.gather
  refine congrArg f (funext fun a => Fin.ext ?_)
  match a with
  | ⟨0, _⟩ =>
    show min (w _).toInt.toNat _ + 0 + 0 = min (w _).toInt.toNat 1
    refine congrArg (fun i => min (w i).toInt.toNat 1) (funext fun a => ?_)
    match a with | ⟨0, _⟩ => rfl | ⟨1, _⟩ => rfl | ⟨2, _⟩ => rfl | ⟨3, _⟩ => rfl | ⟨4, _⟩ => rfl
  | ⟨1, _⟩ =>
    show min (w _).toInt.toNat _ + 0 + 0 = min (w _).toInt.toNat 63
    refine congrArg (fun i => min (w i).toInt.toNat 63) (funext fun a => ?_)
    match a with | ⟨0, _⟩ => rfl | ⟨1, _⟩ => rfl | ⟨2, _⟩ => rfl | ⟨3, _⟩ => rfl | ⟨4, _⟩ => rfl
  | ⟨2, _⟩ =>
    show min (w _).toInt.toNat _ + 0 + 0 = min (w _).toInt.toNat 63
    refine congrArg (fun i => min (w i).toInt.toNat 63) (funext fun a => ?_)
    match a with | ⟨0, _⟩ => rfl | ⟨1, _⟩ => rfl | ⟨2, _⟩ => rfl | ⟨3, _⟩ => rfl | ⟨4, _⟩ => rfl
  | ⟨3, _⟩ => exact (show 0 + 0 + c.val = c.val by omega)

/-- The shape of the kernel's window. -/
abbrev W4 : Shape := ⟨4, ![1, 1, 9, 9]⟩
/-- The shape of the reference's window. -/
abbrev W5 : Shape := ⟨5, ![1, 1, 1, 9, 9]⟩

/-- Position `n` of the kernel's window, counted in row-major order. -/
theorem win4 (n : Fin 81) : W4.rowMajor.symm n = ix4 0 0 ⟨n.val / 9, by omega⟩ ⟨n.val % 9, by omega⟩ := by
  refine (Equiv.symm_apply_eq _).2 (Fin.ext ((?_ : n.val = _).trans (Shape.rowMajor_val_four _).symm))
  show n.val = ((0 * 1 + 0) * 9 + n.val / 9) * 9 + n.val % 9
  omega

/-- Position `n` of the reference's window, counted in row-major order. -/
theorem win5 (n : Fin 81) : W5.rowMajor.symm n = ix5 0 0 0 ⟨n.val / 9, by omega⟩ ⟨n.val % 9, by omega⟩ := by
  refine (Equiv.symm_apply_eq _).2 (Fin.ext ((?_ : n.val = _).trans (Shape.rowMajor_val_five _).symm))
  show n.val = (((0 * 1 + 0) * 1 + 0) * 9 + n.val / 9) * 9 + n.val % 9
  omega

/-- Position `n` of the window over the output pixel `(r, q)` of an image with four pixels of padding on each side, windows two
pixels apart: the image's pixel, or `z` where the position is padding. -/
def peek (z : EReal) (g : Fin 64 → Fin 64 → EReal) (r q : Fin 32) (n : Fin 81) : EReal :=
  if h : (4 ≤ r.val * 2 + n.val / 9 ∧ r.val * 2 + n.val / 9 - 4 < 64) ∧ (4 ≤ q.val * 2 + n.val % 9 ∧ q.val * 2 + n.val % 9 - 4 < 64) then
    g ⟨_, h.1.2⟩ ⟨_, h.2.2⟩ else z

/-- The sum over the nine by nine window of the output pixel `(r, q)`. -/
def box (z : EReal) (g : Fin 64 → Fin 64 → EReal) (r q : Fin 32) : EReal :=
  (List.finRange 81).foldl (fun a n => a + peek z g r q n) z

/-- Two folds over positions counted alike agree when their steps do. -/
theorem fold_congr {N : ℕ} (hN : N = 81) (f : EReal → Fin N → EReal) (g : EReal → Fin 81 → EReal) (z : EReal)
    (h : ∀ a n, f a (n.cast hN.symm) = g a n) : (List.finRange N).foldl f z = (List.finRange 81).foldl g z := by
  subst hN
  exact congrArg (fun f => List.foldl f z (List.finRange 81)) (funext fun a => funext fun n => h a n)

/-- The kernel's window sum, at an index. -/
theorem box4 (g : FVec Ideal KernelIdeal.S32x96x64x64 .f32) (z : FVec Ideal KernelIdeal.S_ .f32) (hw hu) (i : Fin 32) (c : Fin 96) (r q : Fin 32) :
    Host.reduceWindowAdd ![1, 1, 9, 9] ![1, 1, 2, 2] ![0, 0, 4, 4] ![0, 0, 4, 4] g z (t := KernelIdeal.S32x96x32x32) hw hu (ix4 i c r q) =
      box (z (fun a => a.elim0)) (fun y x => g (ix4 i c y x)) r q := by
  have hz : z (Shape.Idx.first hu) = z (fun a => a.elim0) := congrArg z (funext fun a => a.elim0)
  refine (congrFun (show Host.reduceWindowAdd ![1, 1, 9, 9] ![1, 1, 2, 2] ![0, 0, 4, 4] ![0, 0, 4, 4] g z hw hu =
    Host.reduceWindow (· + ·) _ _ _ _ g (fun _ : (⟨0, ![]⟩ : Shape).Idx => z (Shape.Idx.first hu)) hw (by decide) from rfl) _).trans ?_
  rw [hz]
  unfold Host.reduceWindow box
  refine fold_congr rfl _ _ _ fun a n => congrArg (a + ·) ?_
  have e := win4 n
  have h0 : (W4.rowMajor.symm n 0).val = 0 := congrArg (fun i : W4.Idx => (i 0).val) e
  have h1 : (W4.rowMajor.symm n 1).val = 0 := congrArg (fun i : W4.Idx => (i 1).val) e
  have h2 : (W4.rowMajor.symm n 2).val = n.val / 9 := congrArg (fun i : W4.Idx => (i 2).val) e
  have h3 : (W4.rowMajor.symm n 3).val = n.val % 9 := congrArg (fun i : W4.Idx => (i 3).val) e
  unfold peek
  by_cases h : (4 ≤ r.val * 2 + n.val / 9 ∧ r.val * 2 + n.val / 9 - 4 < 64) ∧ (4 ≤ q.val * 2 + n.val % 9 ∧ q.val * 2 + n.val % 9 - 4 < 64)
  · rw [dif_pos h]
    refine (dif_pos fun a => ?_).trans (congrArg g (funext fun a => Fin.ext ?_))
    · match a with
      | ⟨0, _⟩ => exact (show 0 ≤ i.val * 1 + (W4.rowMajor.symm n 0).val ∧ i.val * 1 + (W4.rowMajor.symm n 0).val - 0 < 32 by omega)
      | ⟨1, _⟩ => exact (show 0 ≤ c.val * 1 + (W4.rowMajor.symm n 1).val ∧ c.val * 1 + (W4.rowMajor.symm n 1).val - 0 < 96 by omega)
      | ⟨2, _⟩ => exact (show 4 ≤ r.val * 2 + (W4.rowMajor.symm n 2).val ∧ r.val * 2 + (W4.rowMajor.symm n 2).val - 4 < 64 by rw [h2]; exact h.1)
      | ⟨3, _⟩ => exact (show 4 ≤ q.val * 2 + (W4.rowMajor.symm n 3).val ∧ q.val * 2 + (W4.rowMajor.symm n 3).val - 4 < 64 by rw [h3]; exact h.2)
    · match a with
      | ⟨0, _⟩ => exact (show i.val * 1 + (W4.rowMajor.symm n 0).val - 0 = i.val by omega)
      | ⟨1, _⟩ => exact (show c.val * 1 + (W4.rowMajor.symm n 1).val - 0 = c.val by omega)
      | ⟨2, _⟩ => exact (show r.val * 2 + (W4.rowMajor.symm n 2).val - 4 = r.val * 2 + n.val / 9 - 4 by rw [h2])
      | ⟨3, _⟩ => exact (show q.val * 2 + (W4.rowMajor.symm n 3).val - 4 = q.val * 2 + n.val % 9 - 4 by rw [h3])
  · rw [dif_neg h]
    refine dif_neg fun H => h ⟨?_, ?_⟩
    · have H' : 4 ≤ r.val * 2 + (W4.rowMajor.symm n 2).val ∧ r.val * 2 + (W4.rowMajor.symm n 2).val - 4 < 64 := H 2
      rwa [h2] at H'
    · have H' : 4 ≤ q.val * 2 + (W4.rowMajor.symm n 3).val ∧ q.val * 2 + (W4.rowMajor.symm n 3).val - 4 < 64 := H 3
      rwa [h3] at H'

/-- The reference's window sum, at an index. -/
theorem box5 (g : FVec Ideal ReferenceIdeal.S16x2x96x64x64 .f32) (z : FVec Ideal ReferenceIdeal.S_ .f32) (hw hu) (k : Fin 16) (b : Fin 2) (c : Fin 96)
    (r q : Fin 32) : Host.reduceWindowAdd ![1, 1, 1, 9, 9] ![1, 1, 1, 2, 2] ![0, 0, 0, 4, 4] ![0, 0, 0, 4, 4] g z (t := ReferenceIdeal.S16x2x96x32x32)
      hw hu (ix5 k b c r q) = box (z (fun a => a.elim0)) (fun y x => g (ix5 k b c y x)) r q := by
  have hz : z (Shape.Idx.first hu) = z (fun a => a.elim0) := congrArg z (funext fun a => a.elim0)
  refine (congrFun (show Host.reduceWindowAdd ![1, 1, 1, 9, 9] ![1, 1, 1, 2, 2] ![0, 0, 0, 4, 4] ![0, 0, 0, 4, 4] g z hw hu =
    Host.reduceWindow (· + ·) _ _ _ _ g (fun _ : (⟨0, ![]⟩ : Shape).Idx => z (Shape.Idx.first hu)) hw (by decide) from rfl) _).trans ?_
  rw [hz]
  unfold Host.reduceWindow box
  refine fold_congr rfl _ _ _ fun a n => congrArg (a + ·) ?_
  have e := win5 n
  have h0 : (W5.rowMajor.symm n 0).val = 0 := congrArg (fun i : W5.Idx => (i 0).val) e
  have h1 : (W5.rowMajor.symm n 1).val = 0 := congrArg (fun i : W5.Idx => (i 1).val) e
  have h2 : (W5.rowMajor.symm n 2).val = 0 := congrArg (fun i : W5.Idx => (i 2).val) e
  have h3 : (W5.rowMajor.symm n 3).val = n.val / 9 := congrArg (fun i : W5.Idx => (i 3).val) e
  have h4 : (W5.rowMajor.symm n 4).val = n.val % 9 := congrArg (fun i : W5.Idx => (i 4).val) e
  unfold peek
  by_cases h : (4 ≤ r.val * 2 + n.val / 9 ∧ r.val * 2 + n.val / 9 - 4 < 64) ∧ (4 ≤ q.val * 2 + n.val % 9 ∧ q.val * 2 + n.val % 9 - 4 < 64)
  · rw [dif_pos h]
    refine (dif_pos fun a => ?_).trans (congrArg g (funext fun a => Fin.ext ?_))
    · match a with
      | ⟨0, _⟩ => exact (show 0 ≤ k.val * 1 + (W5.rowMajor.symm n 0).val ∧ k.val * 1 + (W5.rowMajor.symm n 0).val - 0 < 16 by omega)
      | ⟨1, _⟩ => exact (show 0 ≤ b.val * 1 + (W5.rowMajor.symm n 1).val ∧ b.val * 1 + (W5.rowMajor.symm n 1).val - 0 < 2 by omega)
      | ⟨2, _⟩ => exact (show 0 ≤ c.val * 1 + (W5.rowMajor.symm n 2).val ∧ c.val * 1 + (W5.rowMajor.symm n 2).val - 0 < 96 by omega)
      | ⟨3, _⟩ => exact (show 4 ≤ r.val * 2 + (W5.rowMajor.symm n 3).val ∧ r.val * 2 + (W5.rowMajor.symm n 3).val - 4 < 64 by rw [h3]; exact h.1)
      | ⟨4, _⟩ => exact (show 4 ≤ q.val * 2 + (W5.rowMajor.symm n 4).val ∧ q.val * 2 + (W5.rowMajor.symm n 4).val - 4 < 64 by rw [h4]; exact h.2)
    · match a with
      | ⟨0, _⟩ => exact (show k.val * 1 + (W5.rowMajor.symm n 0).val - 0 = k.val by omega)
      | ⟨1, _⟩ => exact (show b.val * 1 + (W5.rowMajor.symm n 1).val - 0 = b.val by omega)
      | ⟨2, _⟩ => exact (show c.val * 1 + (W5.rowMajor.symm n 2).val - 0 = c.val by omega)
      | ⟨3, _⟩ => exact (show r.val * 2 + (W5.rowMajor.symm n 3).val - 4 = r.val * 2 + n.val / 9 - 4 by rw [h3])
      | ⟨4, _⟩ => exact (show q.val * 2 + (W5.rowMajor.symm n 4).val - 4 = q.val * 2 + n.val % 9 - 4 by rw [h4])
  · rw [dif_neg h]
    refine dif_neg fun H => h ⟨?_, ?_⟩
    · have H' : 4 ≤ r.val * 2 + (W5.rowMajor.symm n 3).val ∧ r.val * 2 + (W5.rowMajor.symm n 3).val - 4 < 64 := H 3
      rwa [h3] at H'
    · have H' : 4 ≤ q.val * 2 + (W5.rowMajor.symm n 4).val ∧ q.val * 2 + (W5.rowMajor.symm n 4).val - 4 < 64 := H 4
      rwa [h4] at H'

end Cert.Sampling
-- ==== Proof.Consts.lean ====
module

public import Idealize.ShloMosaic.PureOps.Ideal

@[expose] public section

/-! The float words the two programs hold, as extended reals. -/

namespace Cert.Consts
open Idealize.ShloMosaic

theorem w_neg_inf : Ideal.ofBits .f32 0xFF800000#32 = (⊥ : EReal) := by simp [Ideal.ofBits, Ideal.ieee, -EReal.coe_mul]
theorem w_32 : Ideal.ofBits .f32 0x42000000#32 = ((32 : ℝ) : EReal) := by
  simp [Ideal.ofBits, Ideal.ieee, -EReal.coe_mul]; norm_num
theorem w_neg3 : Ideal.ofBits .f32 0xC0400000#32 = ((-3 : ℝ) : EReal) := by
  simp [Ideal.ofBits, Ideal.ieee, -EReal.coe_mul]; norm_num
theorem w_10 : Ideal.ofBits .f32 0x41200000#32 = ((10 : ℝ) : EReal) := by
  simp [Ideal.ofBits, Ideal.ieee, -EReal.coe_mul]; norm_num
theorem w_1 : Ideal.ofBits .f32 0x3F800000#32 = ((1 : ℝ) : EReal) := by
  simp [Ideal.ofBits, Ideal.ieee, -EReal.coe_mul]; norm_num

theorem w_18 : Ideal.ofBits .f32 0x41900000#32 = ((18 : ℝ) : EReal) := by
  simp [Ideal.ofBits, Ideal.ieee, -EReal.coe_mul]; norm_num

/-- The small constant that keeps a norm from zero. -/
theorem w_eps : Ideal.ofBits .f32 0x358637BD#32 = ((8796093 / 2 ^ 43 : ℝ) : EReal) := by
  simp [Ideal.ofBits, Ideal.ieee, -EReal.coe_mul]; norm_num

end Cert.Consts
-- ==== Proof.Embed.lean ====
module

public import proofs.«01_k».proof.Proof.Gen.KernelIdeal.Frame
public import proofs.«01_k».proof.Proof.Consts
public import Idealize.ShloMosaic.Lib.Pointwise
public import Idealize.ShloMosaic.Lib.Pipeline.Value

@[expose] public section

set_option maxRecDepth 16384

/-! The embedding kernel's result array over the extended reals: every row of `M · g`, divided by its norm. -/

noncomputable section

namespace Cert.Spec
open Idealize.ShloMosaic

/-- A vector divided by its norm, the norm kept from below by the small constant. -/
def unit (x : Fin 128 → EReal) (d : Fin 128) : EReal :=
  Ideal.div (x d) (max (Ideal.sqrt (∑ d', x d' * x d')) (Ideal.ofBits .f32 0x358637BD#32))

/-- Row `p` of the product of `M` and `g`. -/
def mix (M : Fin 4096 → Fin 1024 → EReal) (g : Fin 1024 → Fin 128 → EReal) (p : Fin 4096) (d : Fin 128) : EReal :=
  ∑ k, M p k * g k d

end Cert.Spec

namespace Cert.KernelIdeal.Gen
open Idealize.ShloMosaic Idealize.ShloMosaic.TcCoe Idealize.ShloMosaic.Tactic Idealize.ShloMosaic.Pointwise Finset
open Idealize.ShloMosaic.Pipeline (Dat)

theorem zero3 : (![0, 0, 0] : Fin 3 → Nat) = fun _ => 0 := funext fun a => by fin_cases a <;> rfl

/-- The embedding body's store at an index. -/
theorem pay1_apply (x0 : FVec Ideal S1x512x1024 .f32) (x1 : FVec Ideal S1x1024x128 .f32) (r : Fin 512) (d : Fin 128) :
    k0_pay1 (F := Ideal) x0 x1 (ix3 0 r d) = Spec.unit (fun d => ∑ k, x0 (ix3 0 r k) * x1 (ix3 0 k d)) d := by
  pointwise [k0_pay1]
  rfl

/-- The blocks of the three windows at a grid point. -/
theorem index0 : ∀ t : Fin grid0.N, (win0_0.index t 0 = 0 ∧ win0_0.index t 1 = (grid0.coords t 1).val ∧ win0_0.index t 2 = 0)
    ∧ (win0_1.index t 0 = (grid0.coords t 0).val ∧ win0_1.index t 1 = 0 ∧ win0_1.index t 2 = 0)
    ∧ (win0_2.index t 0 = (grid0.coords t 0).val ∧ win0_2.index t 1 = (grid0.coords t 1).val ∧ win0_2.index t 2 = 0) := by
  decide +kernel

/-- Every pair of coordinates is a grid point's. -/
theorem point0 : ∀ (a : Fin 2) (b : Fin 8), ∃ t : Fin grid0.N, (grid0.coords t 0).val = a.val ∧ (grid0.coords t 1).val = b.val := by
  decide +kernel

/-- The embedding as an array. -/
def embArr (M : FVec Ideal S1x4096x1024 .f32) (g : FVec Ideal S2x1024x128 .f32) : FVec Ideal S2x4096x128 .f32 := fun j =>
  Spec.unit (Spec.mix (fun p k => M (ix3 0 p k)) (fun k d => g (ix3 (j 0) k d)) (j 1)) (j 2)

variable (V : (c : Dev nD) → (b : Ref sig .tc) → Buf (Elt Ideal) ((c : Thread nD τ).loc b))

theorem iblk0_0_apply (c : Dev nD) (t : Fin cfg0.N) (r : Fin 512) (k : Fin 1024) (p : Fin 4096)
    (hp : p.val = 512 * (grid0.coords t 1).val + r.val) :
    iblk0 V c 0 t (ix3 0 r k) = V c main_v195 (ix3 0 p k) := by
  refine congrArg (V c main_v195) (funext fun a => Fin.ext ?_)
  refine (Pipeline.Window.rect_emb_val win0_0 t (ix3 0 r k) a).trans ?_
  obtain ⟨h0, h1, h2⟩ := (index0 t).1
  match a with
  | ⟨0, _⟩ => exact (congrArg (· * 1 + 0) h0).trans (by rfl)
  | ⟨1, _⟩ => exact (congrArg (· * 512 + r.val) h1).trans (by show _ = p.val; omega)
  | ⟨2, _⟩ => exact (congrArg (· * 1024 + k.val) h2).trans (by show _ = k.val; omega)

theorem iblk0_1_apply (c : Dev nD) (t : Fin cfg0.N) (k : Fin 1024) (d : Fin 128) :
    iblk0 V c 1 t (ix3 0 k d) = V c main_v194 (ix3 (grid0.coords t 0) k d) := by
  refine congrArg (V c main_v194) (funext fun a => Fin.ext ?_)
  refine (Pipeline.Window.rect_emb_val win0_1 t (ix3 0 k d) a).trans ?_
  obtain ⟨h0, h1, h2⟩ := (index0 t).2.1
  match a with
  | ⟨0, _⟩ => exact (congrArg (· * 1 + 0) h0).trans (by show _ = (grid0.coords t 0).val; omega)
  | ⟨1, _⟩ => exact (congrArg (· * 1024 + k.val) h1).trans (by show _ = k.val; omega)
  | ⟨2, _⟩ => exact (congrArg (· * 128 + d.val) h2).trans (by show _ = d.val; omega)

/-- What grid point `t` writes back is its block of the embedding. -/
theorem flushed0 (c : Dev nD) (t : Fin cfg0.N) :
    (dat0 V c).flushed 2 t = (win0_2.blk t).view.read (Elt Ideal) (embArr (V c main_v195) (V c main_v194)) := by
  show (cfg0.win 2).cut (grid0.coords t) ((dat0 V c).after 2 t) = _
  rw [after0_2]
  unfold out0_2
  rw [View.canon_unit_zero zero3, View.ld_unit_zero zero3, View.ld_unit_zero zero3]
  funext y
  obtain ⟨a, r, d, rfl⟩ : ∃ (a : Fin 1) (r : Fin 512) (d : Fin 128), y = ix3 a r d := ⟨y 0, y 1, y 2, by
    funext b; match b with | ⟨0, _⟩ => rfl | ⟨1, _⟩ => rfl | ⟨2, _⟩ => rfl⟩
  obtain rfl : a = 0 := Subsingleton.elim _ _
  refine (pay1_apply _ _ r d).trans ?_
  obtain ⟨h0, h1, h2⟩ := (index0 t).2.2
  have hb : (grid0.coords t 1).val < 8 := (grid0.coords t 1).isLt
  have hj : (win0_2.rect t).emb (ix3 0 r d) = (ix3 (grid0.coords t 0) ⟨512 * (grid0.coords t 1).val + r.val, by omega⟩ d : S2x4096x128.Idx) := by
    refine funext fun a => Fin.ext ?_
    refine (Pipeline.Window.rect_emb_val win0_2 t (ix3 0 r d) a).trans ?_
    match a with
    | ⟨0, _⟩ => exact (congrArg (· * 1 + 0) h0).trans (by show _ = (grid0.coords t 0).val; omega)
    | ⟨1, _⟩ => exact (congrArg (· * 512 + r.val) h1).trans (by show _ = 512 * (grid0.coords t 1).val + r.val; omega)
    | ⟨2, _⟩ => exact (congrArg (· * 128 + d.val) h2).trans (by show _ = d.val; omega)
  refine Eq.trans ?_ (congrArg (embArr (V c main_v195) (V c main_v194)) hj).symm
  unfold embArr Spec.mix
  refine congrArg (fun x => Spec.unit x d) (funext fun d => sum_congr rfl fun k _ => ?_)
  exact congrArg₂ (· * ·) (iblk0_0_apply V c t r k _ rfl) (iblk0_1_apply V c t k d)

/-- The blocks fill the array. -/
theorem cover0 (i : S2x4096x128.Idx) : ∃ t : Fin cfg0.N, (cfg0.win 2).flush t = true ∧ i ∈ ((cfg0.win 2).blk t).view.set := by
  have hi : (i 1).val < 4096 := (i 1).isLt
  obtain ⟨t, ha, hb⟩ := point0 (i 0) ⟨(i 1).val / 512, by omega⟩
  refine ⟨t, flush0_2 t, ?_⟩
  show i ∈ ((View.whole main_v196).slice (win0_2.rect t)).set
  rw [View.set_slice_whole, Rect.mem_set_unit]
  obtain ⟨h0, h1, h2⟩ := (index0 t).2.2
  have hd : (i 2).val < 128 := (i 2).isLt
  intro a
  match a with
  | ⟨0, _⟩ => show win0_2.index t 0 * 1 ≤ (i 0).val ∧ (i 0).val < win0_2.index t 0 * 1 + 1; omega
  | ⟨1, _⟩ => show win0_2.index t 1 * 512 ≤ (i 1).val ∧ (i 1).val < win0_2.index t 1 * 512 + 512
              dsimp only at hb; omega
  | ⟨2, _⟩ => show win0_2.index t 2 * 128 ≤ (i 2).val ∧ (i 2).val < win0_2.index t 2 * 128 + 128; omega

/-- The embedding kernel's result array. -/
theorem final0 (c : Dev nD) : (dat0 V c).arrAt 2 cfg0.N = embArr (V c main_v195) (V c main_v194) :=
  (dat0 V c).arrAt_eq_of_cover 2 (embArr (V c main_v195) (V c main_v194)) (fun t _ => flushed0 V c t) cover0

end Cert.KernelIdeal.Gen
-- ==== Proof.StageSpec.lean ====
module

public import proofs.«01_k».proof.Proof.Gen.ReferenceIdeal.Read
public import proofs.«01_k».proof.Proof.Sampling
public import proofs.«01_k».proof.Proof.Embed

@[expose] public section

set_option maxRecDepth 16384

/-! The pooled descriptors, stated plainly: sample the feature map bilinearly at the transformed pixels, average over windows,
project twice, and pool the sixteen transformed copies of each place by a softmax of their scores. -/

noncomputable section

namespace Cert.Spec
open Idealize.ShloMosaic Finset
open Cert.Sampling (pixel entry box)

/-- A normalised coordinate as a pixel position, kept inside the image. -/
def pos (p : EReal) : EReal :=
  min (Ideal.ofBits .f32 0x427C0000#32) (max (Ideal.ofBits .f32 0#32)
    (Ideal.div ((p + 1) * Ideal.ofBits .f32 0x42800000#32 - 1) (Ideal.ofBits .f32 0x40000000#32)))

/-- The whole part of a position. -/
def whole (u : EReal) : EReal := Ideal.liftRound Int.floor u

/-- A whole position as a pixel word, kept inside the image. -/
def word (u : EReal) : BitVec 32 :=
  FloatOps.fptosi (F := Ideal) (φ := .f32) 32 (min (FloatOps.sitofp (F := Ideal) .f32 63#32) (max (FloatOps.sitofp (F := Ideal) .f32 0#32) u))

/-- A pixel word counted from the end of the image where it is negative. -/
def turn (w : BitVec 32) : BitVec 32 := Scalar.select (IntOp.cmpi .slt w 0#32) (IntOp.addi w 64#32) w

variable (x0 : FVec Ideal ReferenceIdeal.S2x96x64x64 .f32) (x1 : FVec Ideal ReferenceIdeal.S16x2x3 .f32)
  (x2 : FVec Ideal ReferenceIdeal.S64x96 .f32) (x3 : FVec Ideal ReferenceIdeal.S64 .f32)
  (x4 : FVec Ideal ReferenceIdeal.S128x64 .f32) (x5 x6 : FVec Ideal ReferenceIdeal.S128 .f32)

/-- Where transform `k` sends the pixel `(y, x)`, as positions in the image; `c` is 0 for the column and 1 for the row. -/
def moved (k : Fin 16) (y x : Fin 64) (c : Fin 2) : EReal :=
  pos (∑ m : Fin 3, x1 (ix3 k c m) * ReferenceIdeal.Read.val_main_v49 (F := Ideal) (ix3 y x m))

/-- The feature map at the pixel two words name. -/
def tap (b : Fin 2) (c : Fin 96) (r q : BitVec 32) : EReal := x0 (ix4 b c (pixel (turn r)) (pixel (turn q)))

/-- The bilinear sample at column position `u` and row position `v`. -/
def sample (b : Fin 2) (c : Fin 96) (u v : EReal) : EReal :=
  tap x0 b c (word (whole v)) (word (whole u)) * (1 - (u - whole u)) * (1 - (v - whole v))
    + tap x0 b c (word (whole v)) (word (whole u + 1)) * (u - whole u) * (1 - (v - whole v))
    + tap x0 b c (word (whole v + 1)) (word (whole u)) * (1 - (u - whole u)) * (v - whole v)
    + tap x0 b c (word (whole v + 1)) (word (whole u + 1)) * (u - whole u) * (v - whole v)

/-- The mean of the samples over the window of place `n`. -/
def mean (k : Fin 16) (b : Fin 2) (n : Fin 1024) (c : Fin 96) : EReal :=
  Ideal.div (box (Ideal.ofBits .f32 0#32) (fun y x => sample x0 b c (moved x1 k y x 0) (moved x1 k y x 1)) ⟨n.val / 32, by omega⟩ ⟨n.val % 32, by omega⟩)
    (Ideal.ofBits .f32 0x42A20000#32)

/-- The descriptor of place `n` under transform `k`: the window mean through the two affine maps. -/
def desc (k : Fin 16) (b : Fin 2) (n : Fin 1024) (d : Fin 128) : EReal :=
  (∑ e : Fin 64, ((∑ c : Fin 96, mean x0 x1 k b n c * x2 (ix2 e c)) + x3 (ix1 e)) * x4 (ix2 d e)) + x5 (ix1 d)

/-- The score of a descriptor. -/
def score (w : Fin 128 → EReal) (f : Fin 128 → EReal) : EReal := Ideal.ofBits .f32 0x41200000#32 * ∑ d, unit f d * w d

/-- The greatest of the sixteen scores. -/
def top (s : Fin 16 → EReal) : EReal :=
  max (Ideal.ofBits .f32 0xFF800000#32) (univ.fold max (Ideal.ofBits .f32 0xFF800000#32) s)

/-- The descriptors of the sixteen transforms, each brought to unit length, averaged with the softmax of their scores. -/
def pool (w : Fin 128 → EReal) (f : Fin 16 → Fin 128 → EReal) (d : Fin 128) : EReal :=
  ∑ k, Ideal.div (Ideal.exp (score w (f k) - top fun k => score w (f k))) (∑ k, Ideal.exp (score w (f k) - top fun k => score w (f k))) * unit (f k) d

end Cert.Spec
-- ==== Proof.HostRead.lean ====
module

public import proofs.«01_k».proof.Proof.Gen.KernelIdeal.Frame
public import proofs.«01_k».proof.Proof.StageSpec
public import Idealize.ShloMosaic.Lib.StableHlo.ReadAt

@[expose] public section

set_option maxRecDepth 16384

/-! The kernel's host lines before the first launch, read over the extended reals: the pooled descriptors they leave. -/

noncomputable section

namespace Cert.KernelIdeal.Gen
open Idealize.ShloMosaic Idealize.ShloMosaic.TcCoe Idealize.ShloMosaic.Pointwise Finset
open Cert.ReferenceIdeal.Read (val_main_v49)
open Cert.Spec Cert.Sampling

variable (X : Valuation τ sig (Elt Ideal))

/-- The pixel grid of the kernel is the reference's. -/
theorem grid_read : StableHlo.after (hostOps0 (F := Ideal)) X (Proc.devRef .tc main_v24) = val_main_v49 (F := Ideal) := by
  after_reads_simp
  rfl

/-- The transformed grid, as the kernel forms it. -/
def placed (θ : FVec Ideal S16x2x3 .f32) : FVec Ideal S16x64x64x2 .f32 :=
  transpose S16x64x64x2 [0, 2, 3, 1] (Host.dotGeneral (φ₁ := .f32) (φ₂ := .f32) dot_S16x2x3_S64x64x3_S16x2x64x64_2_2_01_01_n_n none θ (val_main_v49 (F := Ideal)))
    transposes_S16x2x64x64_S16x64x64x2_0_2_3_1

/-- The first lines leave the transformed grid. -/
theorem placed_read : StableHlo.after (hostOps0 (F := Ideal)) X (Proc.devRef .tc main_v26) = placed (X (Proc.devRef .tc main_arg1)) := by
  unfold placed
  rw [← grid_read X]
  after_reads_simp

/-- The transformed grid at an index. -/
theorem placed_apply (θ : FVec Ideal S16x2x3 .f32) (k : Fin 16) (y x : Fin 64) (c : Fin 2) :
    placed θ (ix4 k y x c) = ∑ m : Fin 3, θ (ix3 k c m) * val_main_v49 (F := Ideal) (ix3 y x m) := by
  unfold placed
  generalize val_main_v49 (F := Ideal) = g
  pointwise

/-- The buffers after the lines that compute positions and pixel words. -/
abbrev early : Valuation τ sig (Elt Ideal) :=
  StableHlo.after hostOps0_11 (StableHlo.after hostOps0_10 (StableHlo.after hostOps0_9 (StableHlo.after hostOps0_8 (StableHlo.after hostOps0_7
    (StableHlo.after hostOps0_6 (StableHlo.after hostOps0_5 (StableHlo.after hostOps0_4 (StableHlo.after hostOps0_3 (StableHlo.after hostOps0_2
    (StableHlo.after hostOps0_1 (StableHlo.after hostOps0 X)))))))))))

/-- The column's fraction. -/
theorem fx_read (k : Fin 16) (y x : Fin 64) : early X (Proc.devRef .tc main_v51) (ix3 k y x) =
    moved (X (Proc.devRef .tc main_arg1)) k y x 0 - whole (moved (X (Proc.devRef .tc main_arg1)) k y x 0) := by
  unfold early moved
  rw [← placed_apply, ← placed_read]
  after_reads_at
  rfl

/-- The row's fraction. -/
theorem fy_read (k : Fin 16) (y x : Fin 64) : early X (Proc.devRef .tc main_v52) (ix3 k y x) =
    moved (X (Proc.devRef .tc main_arg1)) k y x 1 - whole (moved (X (Proc.devRef .tc main_arg1)) k y x 1) := by
  unfold early moved
  rw [← placed_apply, ← placed_read]
  after_reads_at
  rfl

/-- The left column. -/
theorem x0_read (k : Fin 16) (y x : Fin 64) : early X (Proc.devRef .tc main_v54) (ix3 k y x) =
    word (whole (moved (X (Proc.devRef .tc main_arg1)) k y x 0)) := by
  unfold early moved
  rw [← placed_apply, ← placed_read]
  after_reads_at
  rfl

/-- The right column. -/
theorem x1_read (k : Fin 16) (y x : Fin 64) : early X (Proc.devRef .tc main_v58) (ix3 k y x) =
    word (whole (moved (X (Proc.devRef .tc main_arg1)) k y x 0) + 1) := by
  unfold early moved
  rw [← placed_apply, ← placed_read]
  after_reads_at
  rfl

/-- The upper row. -/
theorem y0_read (k : Fin 16) (y x : Fin 64) : early X (Proc.devRef .tc main_v60) (ix3 k y x) =
    word (whole (moved (X (Proc.devRef .tc main_arg1)) k y x 1)) := by
  unfold early moved
  rw [← placed_apply, ← placed_read]
  after_reads_at
  rfl

/-- The lower row, before it is made a word. -/
theorem y1_read (k : Fin 16) (y x : Fin 64) : FloatOps.fptosi (F := Ideal) (φ := .f32) 32 (early X (Proc.devRef .tc main_v63) (ix3 k y x)) =
    word (whole (moved (X (Proc.devRef .tc main_arg1)) k y x 1) + 1) := by
  unfold early moved
  rw [← placed_apply, ← placed_read]
  after_reads_at
  rfl

/-- The pairs of words that the kernel reads the feature map at, from its rows and its columns. -/
def pairs (r q : IVec S16x64x64 32) : IVec S16x64x64x2 32 :=
  concatenate S16x64x64x2 3
    [⟨S16x64x64x1, broadcastInDim S16x64x64x1 ![0, 1, 2] bcast_S16x64x64_S16x64x64x1_0_1_2
        (select (cmpi .slt r (broadcastInDim S16x64x64 ![] bcast_S_S16x64x64 (constantI S_ 32 0#32)))
          (addi r (broadcastInDim S16x64x64 ![] bcast_S_S16x64x64 (constantI S_ 32 64#32))) r)⟩,
      ⟨S16x64x64x1, broadcastInDim S16x64x64x1 ![0, 1, 2] bcast_S16x64x64_S16x64x64x1_0_1_2
        (select (cmpi .slt q (broadcastInDim S16x64x64 ![] bcast_S_S16x64x64 (constantI S_ 32 0#32)))
          (addi q (broadcastInDim S16x64x64 ![] bcast_S_S16x64x64 (constantI S_ 32 64#32))) q)⟩]
    concatenates_S16x64x64x1_S16x64x64x1_S16x64x64x2_d3

/-- A pair's first word. -/
theorem pairs_row (r q : IVec S16x64x64 32) (k : Fin 16) (y x : Fin 64) : pairs r q (ix4 k y x 0) = turn (r (ix3 k y x)) := by
  unfold pairs turn
  pointwise

/-- A pair's second word. -/
theorem pairs_col (r q : IVec S16x64x64 32) (k : Fin 16) (y x : Fin 64) : pairs r q (ix4 k y x 1) = turn (q (ix3 k y x)) := by
  unfold pairs turn
  pointwise

/-- The feature map, read at an array of pairs of words. -/
def gathered (f : FVec Ideal S2x96x64x64 .f32) (w : IVec S16x64x64x2 32) : FVec Ideal S16x2x64x64x96 .f32 :=
  Host.gather gather_S2x64x64x96_S16x64x64x2_S16x2x64x64x96_14_12_n_n_12_3_21196
    (transpose S2x64x64x96 [0, 2, 3, 1] f transposes_S2x96x64x64_S2x64x64x96_0_2_3_1) w

/-- The feature map read at pairs, at an index. -/
theorem gathered_apply (f : FVec Ideal S2x96x64x64 .f32) (w : IVec S16x64x64x2 32) (k : Fin 16) (b : Fin 2) (y x : Fin 64) (c : Fin 96) :
    gathered f w (ix5 k b y x c) = f (ix4 b c (pixel (w (ix4 k y x 0))) (pixel (w (ix4 k y x 1)))) := by
  unfold gathered
  rw [pair_apply]
  pointwise

/-- A read of the feature map at an array of pairs, at an index: the tap at the words the pair is made of. -/
theorem tap_of (f : FVec Ideal S2x96x64x64 .f32) (g : FVec Ideal S16x2x64x64x96 .f32) (w : IVec S16x64x64x2 32) (r q : IVec S16x64x64 32)
    (hg : g = gathered f w) (hw : w = pairs r q) (k : Fin 16) (b : Fin 2) (y x : Fin 64) (c : Fin 96) :
    g (ix5 k b y x c) = tap f b c (r (ix3 k y x)) (q (ix3 k y x)) := by
  rw [hg, hw, gathered_apply, pairs_row, pairs_col]
  rfl

/-- The feature map at the upper left pixels. -/
theorem tap00 (k : Fin 16) (b : Fin 2) (y x : Fin 64) (c : Fin 96) :
    StableHlo.after (hostOps0_12 (F := Ideal)) X (Proc.devRef .tc main_v79) (ix5 k b y x c) =
      tap (X (Proc.devRef .tc main_arg0)) b c ((X (Proc.devRef .tc main_v60)) (ix3 k y x)) ((X (Proc.devRef .tc main_v54)) (ix3 k y x)) :=
  tap_of _ _ (StableHlo.after (hostOps0_12 (F := Ideal)) X (Proc.devRef .tc main_v78)) _ _ (by unfold gathered; after_reads_simp)
    (by after_reads_simp; rfl) k b y x c

/-- The feature map at the upper right pixels. -/
theorem tap01 (k : Fin 16) (b : Fin 2) (y x : Fin 64) (c : Fin 96) :
    StableHlo.after (hostOps0_12 (F := Ideal)) X (Proc.devRef .tc main_v93) (ix5 k b y x c) =
      tap (X (Proc.devRef .tc main_arg0)) b c ((X (Proc.devRef .tc main_v60)) (ix3 k y x)) ((X (Proc.devRef .tc main_v58)) (ix3 k y x)) :=
  tap_of _ _ (StableHlo.after (hostOps0_12 (F := Ideal)) X (Proc.devRef .tc main_v92)) _ _ (by unfold gathered; after_reads_simp)
    (by after_reads_simp; rfl) k b y x c

/-- The feature map at the lower left pixels. -/
theorem tap10 (k : Fin 16) (b : Fin 2) (y x : Fin 64) (c : Fin 96) :
    StableHlo.after (hostOps0_12 (F := Ideal)) X (Proc.devRef .tc main_v107) (ix5 k b y x c) =
      tap (X (Proc.devRef .tc main_arg0)) b c ((StableHlo.after (hostOps0_12 (F := Ideal)) X (Proc.devRef .tc main_v64)) (ix3 k y x)) ((X (Proc.devRef .tc main_v54)) (ix3 k y x)) :=
  tap_of _ _ (StableHlo.after (hostOps0_12 (F := Ideal)) X (Proc.devRef .tc main_v106)) _ _ (by unfold gathered; after_reads_simp)
    (by after_reads_simp; rfl) k b y x c

/-- The feature map at the lower right pixels. -/
theorem tap11 (k : Fin 16) (b : Fin 2) (y x : Fin 64) (c : Fin 96) :
    StableHlo.after (hostOps0_12 (F := Ideal)) X (Proc.devRef .tc main_v121) (ix5 k b y x c) =
      tap (X (Proc.devRef .tc main_arg0)) b c ((StableHlo.after (hostOps0_12 (F := Ideal)) X (Proc.devRef .tc main_v64)) (ix3 k y x)) ((X (Proc.devRef .tc main_v58)) (ix3 k y x)) :=
  tap_of _ _ (StableHlo.after (hostOps0_12 (F := Ideal)) X (Proc.devRef .tc main_v120)) _ _ (by unfold gathered; after_reads_simp)
    (by after_reads_simp; rfl) k b y x c

/-- A weight given at each pixel, the same for both batch entries and all channels. -/
def spread (w : FVec Ideal S16x1x64x64x1 .f32) : FVec Ideal S16x2x64x64x96 .f32 :=
  broadcastInDim S16x2x64x64x96 ![0, 1, 2, 3, 4] bcast_S16x1x64x64x1_S16x2x64x64x96_0_1_2_3_4 w

/-- A weight's complement. -/
def rest (w : FVec Ideal S16x1x64x64x1 .f32) : FVec Ideal S16x1x64x64x1 .f32 :=
  subf (broadcastInDim S16x1x64x64x1 ![] bcast_S_S16x1x64x64x1 (constant S_ .f32 0x3F800000#32)) w

/-- The four taps, weighted and added. -/
def blended (g00 g01 g10 g11 : FVec Ideal S16x2x64x64x96 .f32) (fx fy : FVec Ideal S16x1x64x64x1 .f32) : FVec Ideal S16x2x64x64x96 .f32 :=
  addf (addf (addf (mulf (mulf g00 (spread (rest fx))) (spread (rest fy))) (mulf (mulf g01 (spread fx)) (spread (rest fy))))
    (mulf (mulf g10 (spread (rest fx))) (spread fy))) (mulf (mulf g11 (spread fx)) (spread fy))

/-- A fraction laid out for spreading. -/
def lifted (w : FVec Ideal S16x64x64 .f32) : FVec Ideal S16x1x64x64x1 .f32 :=
  broadcastInDim S16x1x64x64x1 ![0, 2, 3] bcast_S16x64x64_S16x1x64x64x1_0_2_3 w

/-- The weighted taps at an index. -/
theorem blended_apply (g00 g01 g10 g11 : FVec Ideal S16x2x64x64x96 .f32) (fx fy : FVec Ideal S16x64x64 .f32) (k : Fin 16) (b : Fin 2) (y x : Fin 64)
    (c : Fin 96) : blended g00 g01 g10 g11 (lifted fx) (lifted fy) (ix5 k b y x c) =
      g00 (ix5 k b y x c) * (1 - fx (ix3 k y x)) * (1 - fy (ix3 k y x)) + g01 (ix5 k b y x c) * fx (ix3 k y x) * (1 - fy (ix3 k y x))
        + g10 (ix5 k b y x c) * (1 - fx (ix3 k y x)) * fy (ix3 k y x) + g11 (ix5 k b y x c) * fx (ix3 k y x) * fy (ix3 k y x) := by
  unfold blended spread rest lifted
  pointwise

/-- The lines leave the weighted taps. -/
theorem blended_read : StableHlo.after (hostOps0_12 (F := Ideal)) X (Proc.devRef .tc main_v150) =
    blended (StableHlo.after (hostOps0_12 (F := Ideal)) X (Proc.devRef .tc main_v79)) (StableHlo.after (hostOps0_12 (F := Ideal)) X (Proc.devRef .tc main_v93))
      (StableHlo.after (hostOps0_12 (F := Ideal)) X (Proc.devRef .tc main_v107)) (StableHlo.after (hostOps0_12 (F := Ideal)) X (Proc.devRef .tc main_v121))
      (lifted (X (Proc.devRef .tc main_v51))) (lifted (X (Proc.devRef .tc main_v52))) := by
  unfold blended spread rest lifted
  after_reads_simp

/-- The window means of an array of samples, place by place. -/
def meaned (s : FVec Ideal S16x2x64x64x96 .f32) : FVec Ideal S16x2x1024x96 .f32 :=
  transpose S16x2x1024x96 [0, 1, 3, 2]
    (shapeCast S16x2x96x1024
      (Host.divf (Host.reduceWindowAdd ![1, 1, 9, 9] ![1, 1, 2, 2] ![0, 0, 4, 4] ![0, 0, 4, 4]
          (shapeCast S32x96x64x64 (transpose S16x2x96x64x64 [0, 1, 4, 2, 3] s transposes_S16x2x64x64x96_S16x2x96x64x64_0_1_4_2_3)
            shapeCasts_S16x2x96x64x64_S32x96x64x64)
          (broadcastInDim S_ ![] bcast_S_S_ (constant S_ .f32 0x00000000#32))
          reduceWindows_S32x96x64x64_S32x96x32x32_w1s1p0_0_w1s1p0_0_w9s2p4_4_w9s2p4_4 h_S_)
        (broadcastInDim S32x96x32x32 ![] bcast_S_S32x96x32x32 (constant S_ .f32 0x42A20000#32)))
      shapeCasts_S32x96x32x32_S16x2x96x1024)
    transposes_S16x2x96x1024_S16x2x1024x96_0_1_3_2

/-- The window means at an index. -/
theorem meaned_apply (s : FVec Ideal S16x2x64x64x96 .f32) (k : Fin 16) (b : Fin 2) (n : Fin 1024) (c : Fin 96) : meaned s (ix4 k b n c) =
    Ideal.div (box (Ideal.ofBits .f32 0#32) (fun y x => s (ix5 k b y x c)) ⟨n.val / 32, by omega⟩ ⟨n.val % 32, by omega⟩)
      (Ideal.ofBits .f32 0x42A20000#32) := by
  unfold meaned
  generalize hw : Host.reduceWindowAdd (F := Ideal) _ _ _ _ _ _ _ _ = w
  pointwise
  rw [← hw, box4]
  refine congrArg (fun t => Ideal.div t _) (congrArg₂ (fun z g => box z g _ _) Ideal.ofBits_zero_f32 (funext fun y => funext fun x => ?_))
  pointwise

/-- The lines leave the window means. -/
theorem meaned_read : StableHlo.after (hostOps0_12 (F := Ideal)) X (Proc.devRef .tc main_v158) =
    meaned (StableHlo.after (hostOps0_12 (F := Ideal)) X (Proc.devRef .tc main_v150)) := by
  unfold meaned
  after_reads_simp
  rfl

/-- The descriptors from the window means, through the two affine maps. -/
def described (a : FVec Ideal S16x2x1024x96 .f32) (x2 : FVec Ideal S64x96 .f32) (x3 : FVec Ideal S64 .f32) (x4 : FVec Ideal S128x64 .f32)
    (x5 : FVec Ideal S128 .f32) : FVec Ideal S16x2x1024x128 .f32 :=
  addf (Host.dotGeneral (φ₁ := .f32) (φ₂ := .f32) dot_S16x2x1024x64_S64x128_S16x2x1024x128_3_0_012_1_n_n none
      (addf (Host.dotGeneral (φ₁ := .f32) (φ₂ := .f32) dot_S16x2x1024x96_S96x64_S16x2x1024x64_3_0_012_1_n_n none a
          (transpose S96x64 [1, 0] x2 transposes_S64x96_S96x64_1_0))
        (broadcastInDim S16x2x1024x64 ![0, 1, 2, 3] bcast_S1x1x1x64_S16x2x1024x64_0_1_2_3 (broadcastInDim S1x1x1x64 ![3] bcast_S64_S1x1x1x64_3 x3)))
      (transpose S64x128 [1, 0] x4 transposes_S128x64_S64x128_1_0))
    (broadcastInDim S16x2x1024x128 ![0, 1, 2, 3] bcast_S1x1x1x128_S16x2x1024x128_0_1_2_3 (broadcastInDim S1x1x1x128 ![3] bcast_S128_S1x1x1x128_3 x5))

/-- The descriptors at an index. -/
theorem described_apply (a : FVec Ideal S16x2x1024x96 .f32) (x2 : FVec Ideal S64x96 .f32) (x3 : FVec Ideal S64 .f32) (x4 : FVec Ideal S128x64 .f32)
    (x5 : FVec Ideal S128 .f32) (k : Fin 16) (b : Fin 2) (n : Fin 1024) (d : Fin 128) : described a x2 x3 x4 x5 (ix4 k b n d) =
      (∑ e : Fin 64, ((∑ c : Fin 96, a (ix4 k b n c) * x2 (ix2 e c)) + x3 (ix1 e)) * x4 (ix2 d e)) + x5 (ix1 d) := by
  unfold described
  pointwise

/-- The lines leave the descriptors. -/
theorem described_read : StableHlo.after (hostOps0_12 (F := Ideal)) X (Proc.devRef .tc main_v168) =
    described (StableHlo.after (hostOps0_12 (F := Ideal)) X (Proc.devRef .tc main_v158)) (X (Proc.devRef .tc main_arg2)) (X (Proc.devRef .tc main_arg3))
      (X (Proc.devRef .tc main_arg4)) (X (Proc.devRef .tc main_arg5)) := by
  unfold described
  after_reads_simp

/-- The last lines pool the descriptors. -/
theorem pool_read (b : Fin 2) (n : Fin 1024) (d : Fin 128) :
    StableHlo.after (hostOps0_14 (F := Ideal)) (StableHlo.after hostOps0_13 X) (Proc.devRef .tc main_v194) (ix3 b n d) =
      pool (fun d => X (Proc.devRef .tc main_arg6) (ix1 d)) (fun k d => X (Proc.devRef .tc main_v168) (ix4 k b n d)) d := by
  after_reads_at
  rfl

/-- The last lines lay the mixing matrix out for the first launch. -/
theorem mixing_read (p : Fin 4096) (k : Fin 1024) :
    StableHlo.after (hostOps0_14 (F := Ideal)) (StableHlo.after hostOps0_13 X) (Proc.devRef .tc main_v195) (ix3 0 p k) =
      X (Proc.devRef .tc main_arg7) (ix2 p k) := by
  after_reads_at

/-- The lower row's words, from the positions. -/
theorem y1_word (k : Fin 16) (y x : Fin 64) : StableHlo.after (hostOps0_12 (F := Ideal)) (early X) (Proc.devRef .tc main_v64) (ix3 k y x) =
    word (whole (moved (X (Proc.devRef .tc main_arg1)) k y x 1) + 1) := by
  rw [← y1_read]
  generalize early X = Y
  after_reads_at

/-- The samples the kernel takes. -/
theorem sample_read (k : Fin 16) (b : Fin 2) (y x : Fin 64) (c : Fin 96) :
    StableHlo.after (hostOps0_12 (F := Ideal)) (early X) (Proc.devRef .tc main_v150) (ix5 k b y x c) =
      sample (X (Proc.devRef .tc main_arg0)) b c (moved (X (Proc.devRef .tc main_arg1)) k y x 0) (moved (X (Proc.devRef .tc main_arg1)) k y x 1) := by
  have h : early X (Proc.devRef .tc main_arg0) = X (Proc.devRef .tc main_arg0) := by
    unfold early
    after_reads_simp
  rw [blended_read, blended_apply, tap00, tap01, tap10, tap11, y1_word, fx_read, fy_read, x0_read, x1_read, y0_read, h]
  rfl

/-- The descriptors the kernel forms. -/
theorem desc_read (k : Fin 16) (b : Fin 2) (n : Fin 1024) (d : Fin 128) :
    StableHlo.after (hostOps0_12 (F := Ideal)) (early X) (Proc.devRef .tc main_v168) (ix4 k b n d) =
      desc (X (Proc.devRef .tc main_arg0)) (X (Proc.devRef .tc main_arg1)) (X (Proc.devRef .tc main_arg2)) (X (Proc.devRef .tc main_arg3))
        (X (Proc.devRef .tc main_arg4)) (X (Proc.devRef .tc main_arg5)) k b n d := by
  have h2 : early X (Proc.devRef .tc main_arg2) = X (Proc.devRef .tc main_arg2) := by
    unfold early
    after_reads_simp
  have h3 : early X (Proc.devRef .tc main_arg3) = X (Proc.devRef .tc main_arg3) := by
    unfold early
    after_reads_simp
  have h4 : early X (Proc.devRef .tc main_arg4) = X (Proc.devRef .tc main_arg4) := by
    unfold early
    after_reads_simp
  have h5 : early X (Proc.devRef .tc main_arg5) = X (Proc.devRef .tc main_arg5) := by
    unfold early
    after_reads_simp
  rw [described_read, described_apply, h2, h3, h4, h5]
  have hm (c : Fin 96) : StableHlo.after (hostOps0_12 (F := Ideal)) (early X) (Proc.devRef .tc main_v158) (ix4 k b n c) =
      mean (X (Proc.devRef .tc main_arg0)) (X (Proc.devRef .tc main_arg1)) k b n c := by
    rw [meaned_read, meaned_apply]
    exact congrArg (fun g => Ideal.div (box _ g _ _) _) (funext fun y => funext fun x => sample_read X k b y x c)
  exact congrArg (· + _) (sum_congr rfl fun e _ => congrArg (· * _) (congrArg (· + _) (sum_congr rfl fun c _ => congrArg (· * _) (hm c))))

/-- The buffers at the first launch. -/
abbrev late : Valuation τ sig (Elt Ideal) :=
  StableHlo.after hostOps0_14 (StableHlo.after hostOps0_13 (StableHlo.after hostOps0_12 (early X)))

/-- The pooled descriptors the kernel's first launch is given. -/
theorem pooled_read (b : Fin 2) (n : Fin 1024) (d : Fin 128) : late X (Proc.devRef .tc main_v194) (ix3 b n d) =
    pool (fun d => X (Proc.devRef .tc main_arg6) (ix1 d))
      (fun k d => desc (X (Proc.devRef .tc main_arg0)) (X (Proc.devRef .tc main_arg1)) (X (Proc.devRef .tc main_arg2)) (X (Proc.devRef .tc main_arg3))
        (X (Proc.devRef .tc main_arg4)) (X (Proc.devRef .tc main_arg5)) k b n d) d := by
  have h6 : StableHlo.after (hostOps0_12 (F := Ideal)) (early X) (Proc.devRef .tc main_arg6) = X (Proc.devRef .tc main_arg6) := by
    unfold early
    after_reads_simp
  unfold late
  rw [pool_read, h6]
  exact congrArg (fun f => pool _ f d) (funext fun k => funext fun d => desc_read X k b n d)

/-- The mixing matrix the kernel's first launch is given. -/
theorem mixed_read (p : Fin 4096) (k : Fin 1024) : late X (Proc.devRef .tc main_v195) (ix3 0 p k) = X (Proc.devRef .tc main_arg7) (ix2 p k) := by
  have h7 : StableHlo.after (hostOps0_12 (F := Ideal)) (early X) (Proc.devRef .tc main_arg7) = X (Proc.devRef .tc main_arg7) := by
    unfold early
    after_reads_simp
  unfold late
  rw [mixing_read, h7]

end Cert.KernelIdeal.Gen
-- ==== Proof.RefStage.lean ====
module

public import proofs.«01_k».proof.Proof.Gen.ReferenceIdeal.Read
public import proofs.«01_k».proof.Proof.StageSpec
public import Idealize.ShloMosaic.Lib.Pointwise

@[expose] public section

set_option maxRecDepth 16384

/-! The reference's pooled descriptors, read at an index over the extended reals. -/

noncomputable section

namespace Cert.ReferenceIdeal.Read
open Idealize.ShloMosaic Idealize.ShloMosaic.Pointwise Finset
open Cert.Spec Cert.Sampling

variable (x0 : (⟨S2x96x64x64, .f32⟩ : BufTy).Contents (Elt Ideal)) (x1 : (⟨S16x2x3, .f32⟩ : BufTy).Contents (Elt Ideal))
  (x2 : (⟨S64x96, .f32⟩ : BufTy).Contents (Elt Ideal)) (x3 : (⟨S64, .f32⟩ : BufTy).Contents (Elt Ideal))
  (x4 : (⟨S128x64, .f32⟩ : BufTy).Contents (Elt Ideal)) (x5 x6 : (⟨S128, .f32⟩ : BufTy).Contents (Elt Ideal))

/-- The transformed grid at an index. -/
theorem placed_apply (k : Fin 16) (b : Fin 2) (y x : Fin 64) (c : Fin 2) : val_main_v51 (F := Ideal) x1 (ix5 k b y x c) =
    ∑ m : Fin 3, x1 (ix3 k c m) * val_main_v49 (F := Ideal) (ix3 y x m) := by
  unfold val_main_v51 val_main_v50 val_main_v24 val_main_v23
  generalize val_main_v49 (F := Ideal) = g
  pointwise

/-- The column positions. -/
theorem col_apply (k : Fin 16) (b : Fin 2) (y x : Fin 64) : val_main_v64 (F := Ideal) x1 (ix4 k b y x) = moved x1 k y x 0 := by
  unfold moved
  rw [← placed_apply x1 k b]
  unfold val_main_v64 val_main_call0_v4 val_main_call0_v3 val_main_call0_v2 val_main_call0_v1 val_main_call0_v0 val_main_cst_15 val_main_cst_14
    val_main_v63 val_main_v62 val_main_cst_13 val_main_v61 val_main_v60 val_main_cst_12 val_main_v59 val_main_v58 val_main_cst_11 val_main_v57
    val_main_v56 val_main_cst_10 val_main_v53 val_main_v52
  generalize val_main_v51 (F := Ideal) x1 = g
  pointwise
  rfl

/-- The row positions. -/
theorem row_apply (k : Fin 16) (b : Fin 2) (y x : Fin 64) : val_main_v73 (F := Ideal) x1 (ix4 k b y x) = moved x1 k y x 1 := by
  unfold moved
  rw [← placed_apply x1 k b]
  unfold val_main_v73 val_main_call1_v4 val_main_call1_v3 val_main_call1_v2 val_main_call1_v1 val_main_call1_v0 val_main_cst_21 val_main_cst_20
    val_main_v72 val_main_v71 val_main_cst_19 val_main_v70 val_main_v69 val_main_cst_18 val_main_v68 val_main_v67 val_main_cst_17 val_main_v66
    val_main_v65 val_main_cst_16 val_main_v55 val_main_v54
  generalize val_main_v51 (F := Ideal) x1 = g
  pointwise
  rfl

/-- The column's fraction. -/
theorem fx_apply (k : Fin 16) (b : Fin 2) (y x : Fin 64) : val_main_v179 (F := Ideal) x1 (ix4 k b y x) = moved x1 k y x 0 - whole (moved x1 k y x 0) := by
  rw [← col_apply x1 k b]
  unfold val_main_v179 val_main_v74
  generalize val_main_v64 (F := Ideal) x1 = g
  pointwise
  rfl

/-- The row's fraction. -/
theorem fy_apply (k : Fin 16) (b : Fin 2) (y x : Fin 64) : val_main_v180 (F := Ideal) x1 (ix4 k b y x) = moved x1 k y x 1 - whole (moved x1 k y x 1) := by
  rw [← row_apply x1 k b]
  unfold val_main_v180 val_main_v75
  generalize val_main_v73 (F := Ideal) x1 = g
  pointwise
  rfl

/-- The left column's word. -/
theorem c0_apply (k : Fin 16) (b : Fin 2) (y x : Fin 64) : val_main_v77 (F := Ideal) x1 (ix4 k b y x) = word (whole (moved x1 k y x 0)) := by
  rw [← col_apply x1 k b]
  unfold val_main_v77 val_main_v76 val_main_call2_v4 val_main_call2_v3 val_main_call2_v2 val_main_call2_v1 val_main_call2_v0 val_main_c_22 val_main_c
    val_main_v74
  generalize val_main_v64 (F := Ideal) x1 = g
  pointwise
  rfl

/-- The right column's word. -/
theorem c1_apply (k : Fin 16) (b : Fin 2) (y x : Fin 64) : val_main_v81 (F := Ideal) x1 (ix4 k b y x) = word (whole (moved x1 k y x 0) + 1) := by
  rw [← col_apply x1 k b]
  unfold val_main_v81 val_main_v80 val_main_call3_v4 val_main_call3_v3 val_main_call3_v2 val_main_call3_v1 val_main_call3_v0 val_main_c_25
    val_main_c_24 val_main_v79 val_main_v78 val_main_cst_23 val_main_v74
  generalize val_main_v64 (F := Ideal) x1 = g
  pointwise
  rfl

/-- The upper row's word. -/
theorem r0_apply (k : Fin 16) (b : Fin 2) (y x : Fin 64) : val_main_v83 (F := Ideal) x1 (ix4 k b y x) = word (whole (moved x1 k y x 1)) := by
  rw [← row_apply x1 k b]
  unfold val_main_v83 val_main_v82 val_main_call4_v4 val_main_call4_v3 val_main_call4_v2 val_main_call4_v1 val_main_call4_v0 val_main_c_27
    val_main_c_26 val_main_v75
  generalize val_main_v73 (F := Ideal) x1 = g
  pointwise
  rfl

/-- The lower row's word. -/
theorem r1_apply (k : Fin 16) (b : Fin 2) (y x : Fin 64) : val_main_v134 (F := Ideal) x1 (ix4 k b y x) = word (whole (moved x1 k y x 1) + 1) := by
  rw [← row_apply x1 k b]
  unfold val_main_v134 val_main_v133 val_main_call5_v4 val_main_call5_v3 val_main_call5_v2 val_main_call5_v1 val_main_call5_v0 val_main_c_42
    val_main_c_41 val_main_v132 val_main_v131 val_main_cst_40 val_main_v75
  generalize val_main_v73 (F := Ideal) x1 = g
  pointwise
  rfl

/-- A batch entry's word names that entry. -/
theorem entry_word (b : Fin 2) :
    entry (Scalar.select (IntOp.cmpi .slt (BitVec.ofNat 32 b.val) 0#32) (IntOp.addi (BitVec.ofNat 32 b.val) 2#32) (BitVec.ofNat 32 b.val)) = b := by
  fin_cases b <;> decide

/-- The feature map, read at the triples of the batch entry's word and the words of a row and of a column. -/
def gathered (f : FVec Ideal S2x96x64x64 .f32) (r q : IVec S16x2x64x64 32) : FVec Ideal S16x2x64x64x96 .f32 :=
  Host.gather gather_S2x64x64x96_S16x2x64x64x3_S16x2x64x64x96_4_012_n_n_012_4_11196 (val_main_v84 (F := Ideal) f)
    (concatenate S16x2x64x64x3 4 [⟨S16x2x64x64x1, val_main_v106 (F := Ideal)⟩,
      ⟨S16x2x64x64x1, broadcastInDim S16x2x64x64x1 ![0, 1, 2, 3] Gen.bcast_S16x2x64x64_S16x2x64x64x1_0_1_2_3
        (select (cmpi .slt r (broadcastInDim S16x2x64x64 ![] Gen.bcast_S_S16x2x64x64 (constantI S_ 32 0#32)))
          (addi r (broadcastInDim S16x2x64x64 ![] Gen.bcast_S_S16x2x64x64 (constantI S_ 32 64#32))) r)⟩,
      ⟨S16x2x64x64x1, broadcastInDim S16x2x64x64x1 ![0, 1, 2, 3] Gen.bcast_S16x2x64x64_S16x2x64x64x1_0_1_2_3
        (select (cmpi .slt q (broadcastInDim S16x2x64x64 ![] Gen.bcast_S_S16x2x64x64 (constantI S_ 32 0#32)))
          (addi q (broadcastInDim S16x2x64x64 ![] Gen.bcast_S_S16x2x64x64 (constantI S_ 32 64#32))) q)⟩]
      Gen.concatenates_S16x2x64x64x1_S16x2x64x64x1_S16x2x64x64x1_S16x2x64x64x3_d4)

/-- The feature map read at triples, at an index. -/
theorem gathered_apply (f : FVec Ideal S2x96x64x64 .f32) (r q : IVec S16x2x64x64 32) (k : Fin 16) (b : Fin 2) (y x : Fin 64) (c : Fin 96) :
    gathered f r q (ix5 k b y x c) = tap f b c (r (ix4 k b y x)) (q (ix4 k b y x)) := by
  unfold gathered
  rw [Sampling.triple_apply]
  unfold val_main_v106 val_main_v103 val_main_v102 val_main_v91 val_main_v90 val_main_v89 val_main_c_29 val_main_v88 val_main_v87 val_main_c_28
    val_main_v86 val_main_v85 val_main_v84
  pointwise
  rw [entry_word]
  rfl

/-- The reference's samples. -/
theorem sample_apply (k : Fin 16) (b : Fin 2) (y x : Fin 64) (c : Fin 96) : val_main_v209 (F := Ideal) x0 x1 (ix5 k b y x c) =
    sample x0 b c (moved x1 k y x 0) (moved x1 k y x 1) := by
  have g00 : val_main_v108 (F := Ideal) x0 x1 = gathered x0 (val_main_v83 (F := Ideal) x1) (val_main_v77 (F := Ideal) x1) := rfl
  have g01 : val_main_v130 (F := Ideal) x0 x1 = gathered x0 (val_main_v83 (F := Ideal) x1) (val_main_v81 (F := Ideal) x1) := rfl
  have g10 : val_main_v156 (F := Ideal) x0 x1 = gathered x0 (val_main_v134 (F := Ideal) x1) (val_main_v77 (F := Ideal) x1) := rfl
  have g11 : val_main_v178 (F := Ideal) x0 x1 = gathered x0 (val_main_v134 (F := Ideal) x1) (val_main_v81 (F := Ideal) x1) := rfl
  unfold sample
  rw [← fx_apply x1 k b, ← fy_apply x1 k b, ← c0_apply x1 k b, ← c1_apply x1 k b, ← r0_apply x1 k b, ← r1_apply x1 k b, ← gathered_apply, ← gathered_apply,
    ← gathered_apply, ← gathered_apply, ← g00, ← g01, ← g10, ← g11]
  unfold val_main_v209 val_main_v208 val_main_v207 val_main_v206 val_main_v205 val_main_v204 val_main_v203 val_main_v202 val_main_v201 val_main_v200
    val_main_v199 val_main_v198 val_main_cst_58 val_main_v197 val_main_v196 val_main_v195 val_main_v194 val_main_v193 val_main_cst_57 val_main_v192
    val_main_v191 val_main_v190 val_main_v189 val_main_v188 val_main_v187 val_main_cst_56 val_main_v186 val_main_v185 val_main_v184 val_main_v183
    val_main_cst_55 val_main_v182 val_main_v181
  generalize val_main_v108 (F := Ideal) x0 x1 = a
  generalize val_main_v130 (F := Ideal) x0 x1 = a1
  generalize val_main_v156 (F := Ideal) x0 x1 = a2
  generalize val_main_v178 (F := Ideal) x0 x1 = a3
  generalize val_main_v179 (F := Ideal) x1 = u
  generalize val_main_v180 (F := Ideal) x1 = v
  pointwise

/-- The reference's window means. -/
theorem mean_apply (k : Fin 16) (b : Fin 2) (n : Fin 1024) (c : Fin 96) : val_main_v216 (F := Ideal) x0 x1 (ix4 k b n c) = mean x0 x1 k b n c := by
  unfold val_main_v216 val_main_v215 val_main_v214 val_main_v213 val_main_cst_60
  generalize hw : val_main_v212 (F := Ideal) x0 x1 = w
  pointwise
  rw [← hw]
  unfold val_main_v212
  rw [box5]
  refine congrArg (fun t => Ideal.div t _) (congrArg₂ (fun z g => box z g _ _) rfl (funext fun y => funext fun x => ?_))
  rw [← sample_apply]
  unfold val_main_v210
  generalize val_main_v209 (F := Ideal) x0 x1 = g
  pointwise

/-- The reference's descriptors. -/
theorem desc_apply (k : Fin 16) (b : Fin 2) (n : Fin 1024) (d : Fin 128) : val_main_v228 (F := Ideal) x0 x1 x2 x3 x4 x5 (ix4 k b n d) =
    desc x0 x1 x2 x3 x4 x5 k b n d := by
  unfold desc
  simp only [← mean_apply]
  unfold val_main_v228 val_main_v227 val_main_v226 val_main_v225 val_main_v224 val_main_v223 val_main_v222 val_main_v221 val_main_v220 val_main_v219
    val_main_v218 val_main_v217
  generalize val_main_v216 (F := Ideal) x0 x1 = g
  pointwise

/-- The reference's pooled descriptors. -/
theorem pooled_apply (b : Fin 2) (n : Fin 1024) (d : Fin 128) : val_main_v255 (F := Ideal) x0 x1 x2 x3 x4 x5 x6 (ix3 b n d) =
    pool (fun d => x6 (ix1 d)) (fun k d => desc x0 x1 x2 x3 x4 x5 k b n d) d := by
  simp only [← desc_apply]
  unfold val_main_v255 val_main_cst_67 val_main_v254 val_main_v253 val_main_v252 val_main_v251 val_main_v250 val_main_v249 val_main_v248
    val_main_cst_66 val_main_v247 val_main_v246 val_main_v245 val_main_v244 val_main_v243 val_main_v242 val_main_cst_65 val_main_v241 val_main_cst_64
    val_main_v240 val_main_v239 val_main_cst_63 val_main_v238 val_main_cst_62 val_main_v237 val_main_v236 val_main_v235 val_main_v234 val_main_v233
    val_main_v232 val_main_v231 val_main_v230 val_main_cst_61 val_main_v229 val_main_call6_v2 val_main_call6_v1 val_main_call6_cst val_main_call6_v0
  generalize val_main_v228 (F := Ideal) x0 x1 x2 x3 x4 x5 = g
  pointwise
  rfl

end Cert.ReferenceIdeal.Read
-- ==== Proof.Affinity.lean ====
module

public import proofs.«01_k».proof.Proof.Gen.KernelIdeal.Frame
public import Idealize.ShloMosaic.Lib.WholeRead

@[expose] public section

set_option maxRecDepth 65536

/-! The affinity kernel's stores as two functions: what one block of 256 rows holds in the scratch buffer, column chunk
by column chunk, and what eight rows of it become in the result block. -/

noncomputable section

namespace Cert.KernelIdeal.Gen
open Idealize.ShloMosaic Idealize.ShloMosaic.TcCoe Idealize.ShloMosaic.Tactic

variable {F : FTy → Type} [FloatOps F] [Named F]

/-- The remainder of a word by 64, rounded down: the column of a pixel. -/
def rem64 (x : BitVec 32) : BitVec 32 :=
  let r := Scalar.remsi x 64#32
  Scalar.select (Scalar.andi (Scalar.xori (Scalar.cmpi .slt r 0#32) 0#1) (Scalar.cmpi .ne r 0#32))
    (Scalar.addi r 64#32) r

/-- The quotient of a word by 64, rounded down: the row of a pixel. -/
def quot64 (x : BitVec 32) : BitVec 32 :=
  let q := Scalar.divsi x 64#32
  Scalar.select
    (Scalar.andi
      (Scalar.cmpi .ne (Scalar.subi (Scalar.extui (Scalar.cmpi .sgt x 0#32)) (Scalar.extui (Scalar.cmpi .slt x 0#32))) 1#32)
      (Scalar.cmpi .ne (Scalar.remsi x 64#32) 0#32))
    (Scalar.subi q 1#32) q

/-- A word function over a block, converted to floats. -/
def coordF (f : BitVec 32 → BitVec 32) (x : IVec S256x512 32) : FVec F S256x512 .f32 := sitofp .f32 fun j => f (x j)

/-- The pixel number of each row of the block at grid point `i`. -/
def rowIx (i : grid1.Coords) : IVec S256x512 32 := fun j =>
  Scalar.addi (Scalar.muli (BitVec.ofNat 32 (i 1).val) 256#32) (iota .tc S256x512 32 [0] iota_S256x512_d0_w32 j)

/-- The pixel number of each column of the chunk starting at `cb`. -/
def colIx (cb : BitVec 32) : IVec S256x512 32 := fun j =>
  Scalar.addi cb (iota .tc S256x512 32 [1] iota_S256x512_d1_w32 j)

/-- One chunk of the masked similarities: the products of the rows with 512 columns, times one minus the Gaussian of
the pixel distance. -/
def chunk (i : grid1.Coords) (cb : BitVec 32) (v1 : FVec F S256x128 .f32) (v48 : Vec F S1x512x128 .f32) :
    FVec F S256x512 .f32 :=
  let S : FVec F S256x512 .f32 := matmul dot_S256x128_S512x128_S256x512_1_1_0_0_n_n none (truncf .bf16 v1 bitsLt_bf16_f32)
    (truncf .bf16 (shapeCast S512x128 v48 shapeCasts_S1x512x128_S512x128) bitsLt_bf16_f32)
    (constant S256x512 .f32 0x00000000#32)
  let dx : FVec F S256x512 .f32 := subf (coordF rem64 (rowIx i)) (coordF rem64 (colIx cb))
  let dy : FVec F S256x512 .f32 := subf (coordF quot64 (rowIx i)) (coordF quot64 (colIx cb))
  let e : FVec F S256x512 .f32 := exp (mulf (addf (mulf dx dx) (mulf dy dy))
    (broadcast S256x512 (Named.named κ "inv_two_sigma_sq" 0xBD638E39#32)))
  shapeCast S256x512 (mulf S (subf (broadcast S256x512 (Scalar.ofBits .f32 0x3F800000#32)) e)) shapeCasts_S256x512_S256x512

theorem inbCol (k : Fin 8) : ∀ a, (![0, 512 * k.val] : Fin 2 → ℕ) a + S256x512.size a ≤ S256x4096.size a := by
  revert k; decide

theorem inbRhs (k : Fin 8) : ∀ a, (![0, 512 * k.val, 0] : Fin 3 → ℕ) a + S1x512x128.size a ≤ S1x4096x128.size a := by
  revert k; decide

/-- The scratch piece of column chunk `k`. -/
def colPiece (c : Dev nD) (i : grid1.Coords) (arg2 : Memref sig .tc .vmem S1x256x128 .f32) (harg2 : arg2.IsWhole)
    (arg3 : Memref sig .tc .vmem S1x4096x128 .f32) (harg3 : arg3.IsWhole)
    (x0 : Vec F S1x256x128 .f32) (x1 : Vec F S1x4096x128 .f32) (k : Fin 8) : View.Piece (Elt F) S256x4096 .f32 :=
  ⟨Rect.unit ![0, 512 * k.val] S256x512.size (inbCol k), chunk i (BitVec.ofNat 32 (512 * k.val))
    (kernelRun1_A.sl.v1 c arg2 harg2 x0)
    (View.readAt (Elt F) arg3.view (Rect.unit (s := S1x4096x128) ![0, 512 * k.val, 0] S1x512x128.size (inbRhs k)).toLoadRect (harg3.unread x1))⟩

/-- The scratch buffer is filled by the eight column chunks. -/
theorem scratch_pieces (c : Dev nD) (i : grid1.Coords) (arg2 : Memref sig .tc .vmem S1x256x128 .f32) (harg2 : arg2.IsWhole)
    (arg3 : Memref sig .tc .vmem S1x4096x128 .f32) (harg3 : arg3.IsWhole)
    (x0 : Vec F S1x256x128 .f32) (x1 : Vec F S1x4096x128 .f32) :
    kernelRun1_A.sl.HS0_8 c i arg2 harg2 arg3 harg3 x0 x1 =
      [7, 6, 5, 4, 3, 2, 1, 0].map (colPiece c i arg2 harg2 arg3 harg3 x0 x1) := rfl

/-- One trip of the threshold search over eight rows: the values left, the count so far and the threshold. -/
def trip (x : Vec F S8x4096 .f32 × FVec F S8x1 .f32 × FVec F S8x1 .f32) :
    Vec F S8x4096 .f32 × FVec F S8x1 .f32 × FVec F S8x1 .f32 :=
  (k1_pay62 x.1 x.2.1, k1_pay64 x.1 x.2.1, k1_pay63 x.1 x.2.1 x.2.2)

/-- The threshold of each of eight rows after 32 trips. -/
def thrOf (s : Vec F S8x4096 .f32) : FVec F S8x1 .f32 :=
  (Scf.fold (n := k1_t1_loop.trips) (fun _ x => trip x) (s, k1_pay57, k1_pay58)).2.2

/-- Eight rows of the result from eight rows of masked similarities. -/
def grp (s : Vec F S8x4096 .f32) : FVec F S1x8x4096 .f32 :=
  k1_pay70 s (k1_pay65 s (thrOf s)) (k1_pay66 s (thrOf s)) (k1_pay68 (k1_pay67 s (thrOf s)))
    (k1_pay69 (k1_pay66 s (thrOf s))) (Scalar.ofBits .f32 0x00000000#32)

theorem inbRow (g : Fin 32) : ∀ a, (![8 * g.val, 0] : Fin 2 → ℕ) a + S8x4096.size a ≤ S256x4096.size a := by
  revert g; decide

theorem inbOut (g : Fin 32) : ∀ a, (![0, 8 * g.val, 0] : Fin 3 → ℕ) a + (![1, 8, 4096] : Fin 3 → ℕ) a ≤ S1x256x4096.size a := by
  revert g; decide

/-- The piece of the result block that row group `g` stores. -/
def rowPiece (c : Dev nD) (i : grid1.Coords) (arg2 : Memref sig .tc .vmem S1x256x128 .f32) (harg2 : arg2.IsWhole)
    (arg3 : Memref sig .tc .vmem S1x4096x128 .f32) (harg3 : arg3.IsWhole) (arg5 : Memref sig .tc .vmem S256x4096 .f32)
    (x0 : Vec F S1x256x128 .f32) (x1 : Vec F S1x4096x128 .f32) (g : Fin 32) : View.Piece (Elt F) S1x256x4096 .f32 :=
  ⟨Rect.unit ![0, 8 * g.val, 0] ![1, 8, 4096] (inbOut g),
    grp (arg5.view.readCov (kernelRun1_A.sl.HS0_8 c i arg2 harg2 arg3 harg3 x0 x1)
      (Rect.unit (s := S256x4096) ![8 * g.val, 0] S8x4096.size (inbRow g)).toLoadRect)⟩

/-- The result block is filled by the thirty-two row groups. -/
theorem result_pieces (c : Dev nD) (i : grid1.Coords) (arg2 : Memref sig .tc .vmem S1x256x128 .f32) (harg2 : arg2.IsWhole)
    (arg3 : Memref sig .tc .vmem S1x4096x128 .f32) (harg3 : arg3.IsWhole)
    (arg4 : Memref sig .tc .vmem S1x256x4096 .f32) (harg4 : arg4.IsWhole)
    (arg5 : Memref sig .tc .vmem S256x4096 .f32) (harg5 : arg5.IsWhole)
    (x0 : Vec F S1x256x128 .f32) (x1 : Vec F S1x4096x128 .f32) :
    (kernelRun1_A c i arg2 harg2 arg3 harg3 arg4 harg4 arg5 harg5 x0 x1).1 =
      [31, 30, 29, 28, 27, 26, 25, 24, 23, 22, 21, 20, 19, 18, 17, 16, 15, 14, 13, 12, 11, 10, 9, 8, 7, 6, 5, 4, 3, 2, 1, 0].map
        (rowPiece c i arg2 harg2 arg3 harg3 arg5 x0 x1) := rfl

/-- Eight rows of an array of 256. -/
def rows8 (A : Vec F S256x4096 .f32) (g : Fin 32) : Vec F S8x4096 .f32 := fun j =>
  A ((Rect.unit (s := S256x4096) ![8 * g.val, 0] S8x4096.size (inbRow g)).toLoadRect.idx j)

/-- The scratch array: column chunk `y 1 / 512` at its local column. -/
def scratch (i : grid1.Coords) (x0 : Vec F S1x256x128 .f32) (x1 : Vec F S1x4096x128 .f32) : Vec F S256x4096 .f32 :=
  View.canon (Val := Elt F) ([7, 6, 5, 4, 3, 2, 1, 0].map fun k : Fin 8 =>
    (⟨Rect.unit ![0, 512 * k.val] S256x512.size (inbCol k), chunk i (BitVec.ofNat 32 (512 * k.val))
      (shapeCast S256x128 x0 shapeCasts_S1x256x128_S256x128)
      (View.ld x1 (Rect.unit (s := S1x4096x128) ![0, 512 * k.val, 0] S1x512x128.size (inbRhs k)))⟩ :
        View.Piece (Elt F) S256x4096 .f32))

/-- What the kernel reads back of the scratch buffer is that array. -/
theorem canon_scratch (c : Dev nD) (i : grid1.Coords) (arg2 : Memref sig .tc .vmem S1x256x128 .f32) (harg2 : arg2.IsWhole)
    (arg3 : Memref sig .tc .vmem S1x4096x128 .f32) (harg3 : arg3.IsWhole)
    (x0 : Vec F S1x256x128 .f32) (x1 : Vec F S1x4096x128 .f32) :
    View.canon (kernelRun1_A.sl.HS0_8 c i arg2 harg2 arg3 harg3 x0 x1) = scratch i x0 x1 := by
  rw [scratch_pieces]
  unfold scratch
  refine congrArg View.canon (List.map_congr_left fun k _ => ?_)
  unfold colPiece
  have h1 : kernelRun1_A.sl.v1 c arg2 harg2 x0 = shapeCast S256x128 x0 shapeCasts_S1x256x128_S256x128 := by
    unfold kernelRun1_A.sl.v1
    refine congrArg (fun z => shapeCast S256x128 z shapeCasts_S1x256x128_S256x128) ?_
    refine Eq.trans (funext fun j => Memref.IsWhole.readAt_unread harg2 x0 _ j) ?_
    exact View.ld_unit_zero (by funext a; fin_cases a <;> rfl) _ x0
  have h2 : (View.readAt (Elt F) arg3.view (Rect.unit (s := S1x4096x128) ![0, 512 * k.val, 0] S1x512x128.size
      (inbRhs k)).toLoadRect (harg3.unread x1)) =
      View.ld x1 (Rect.unit (s := S1x4096x128) ![0, 512 * k.val, 0] S1x512x128.size (inbRhs k)) :=
    funext fun j => Memref.IsWhole.readAt_unread harg3 x1 _ j
  rw [h1, h2]

/-- The result block at row `8 g + r`: row `r` of the group function of the scratch's rows `8 g …`. -/
theorem out1_eq (c : Dev nD) (i : grid1.Coords) (arg2 : Memref sig .tc .vmem S1x256x128 .f32) (harg2 : arg2.IsWhole)
    (arg3 : Memref sig .tc .vmem S1x4096x128 .f32) (harg3 : arg3.IsWhole)
    (arg4 : Memref sig .tc .vmem S1x256x4096 .f32) (harg4 : arg4.IsWhole)
    (arg5 : Memref sig .tc .vmem S256x4096 .f32) (harg5 : arg5.IsWhole)
    (x0 : Vec F S1x256x128 .f32) (x1 : Vec F S1x4096x128 .f32) (G : Vec F S1x256x4096 .f32)
    (hG : ∀ (g : Fin 32) (j : S1x8x4096.Idx), grp (rows8 (scratch i x0 x1) g) j =
      G ((Rect.unit (s := S1x256x4096) ![0, 8 * g.val, 0] ![1, 8, 4096] (inbOut g)).emb j)) :
    out1_A_2 c i arg2 harg2 arg3 harg3 arg4 harg4 arg5 harg5 x0 x1 = G := by
  funext y
  unfold out1_A_2
  refine (View.read_writes_junk_apply_eq_canon _ y _).trans ?_
  refine View.canon_apply_of_pieces G _ ?_ y (cover1_A_2 c i arg2 harg2 arg3 harg3 arg4 harg4 arg5 harg5 x0 x1 y)
  rw [result_pieces]
  intro p hp x
  obtain ⟨g, hg, hp'⟩ := List.mem_map.mp hp
  subst hp'
  refine Eq.trans ?_ (hG g x)
  refine congrFun (congrArg grp ?_) x
  refine (View.readCov_eq_canon' _ _ _).trans ?_
  rw [canon_scratch]
  generalize scratch i x0 x1 = A
  unfold rows8
  rfl

end Cert.KernelIdeal.Gen
-- ==== Proof.Masked.lean ====
module

public import proofs.«01_k».proof.Proof.Affinity
public import proofs.«01_k».proof.Proof.Consts
public import Idealize.ShloMosaic.Lib.Pointwise

@[expose] public section

set_option maxRecDepth 16384

/-! The masked similarities of one block, read at an index over the extended reals: the product of two rows of the
embedding, times one minus the Gaussian of the distance of the two pixels. -/

noncomputable section

namespace Cert.Masked
open Idealize.ShloMosaic

/-- The similarity of pixels `p` and `q` of an embedding, masked by one minus the Gaussian of their distance. -/
def masked (e : Fin 4096 → Fin 128 → EReal) (p q : Fin 4096) : EReal :=
  (∑ k, e p k * e q k) * (1 - Ideal.exp
    ((((((p.val % 64 : ℕ) : ℝ) - ((q.val % 64 : ℕ) : ℝ)) ^ 2 + (((p.val / 64 : ℕ) : ℝ) - ((q.val / 64 : ℕ) : ℝ)) ^ 2 : ℝ) : EReal)
      * ((-1 / 18 : ℝ) : EReal)))

end Cert.Masked

namespace Cert.KernelIdeal.Gen
open Idealize.ShloMosaic Idealize.ShloMosaic.TcCoe Idealize.ShloMosaic.Tactic Idealize.ShloMosaic.Pointwise Finset

theorem rem64_ofNat : ∀ n : Fin 4096, (rem64 (BitVec.ofNat 32 n.val)).toInt = (n.val % 64 : ℕ) := by decide +kernel

theorem quot64_ofNat : ∀ n : Fin 4096, (quot64 (BitVec.ofNat 32 n.val)).toInt = (n.val / 64 : ℕ) := by decide +kernel

theorem named_val : Named.named (F := Ideal) (φ := .f32) κ "inv_two_sigma_sq" 0xBD638E39#32 = ((-1 / 18 : ℝ) : EReal) :=
  IdealRules.named_const.ideal_named_scalar _ _ _ _ rfl

/-- The column of a pixel as a float. -/
theorem sit_rem (n : Fin 4096) : FloatOps.sitofp (F := Ideal) .f32 (rem64 (BitVec.ofNat 32 n.val)) = (((n.val % 64 : ℕ) : ℝ) : EReal) := by
  show (((rem64 (BitVec.ofNat 32 n.val)).toInt : ℝ) : EReal) = _
  rw [rem64_ofNat]; norm_cast

/-- The row of a pixel as a float. -/
theorem sit_quot (n : Fin 4096) : FloatOps.sitofp (F := Ideal) .f32 (quot64 (BitVec.ofNat 32 n.val)) = (((n.val / 64 : ℕ) : ℝ) : EReal) := by
  show (((quot64 (BitVec.ofNat 32 n.val)).toInt : ℝ) : EReal) = _
  rw [quot64_ofNat]; norm_cast

/-- One chunk at row `r` and column `q`, where the chunk's columns start at `cb`. -/
theorem chunk_apply (i : grid1.Coords) (k : Fin 8) (x0 : FVec Ideal S1x256x128 .f32) (x1 : FVec Ideal S1x4096x128 .f32)
    (e : Fin 4096 → Fin 128 → EReal) (p : Fin 256 → Fin 4096) (hp : ∀ r, (p r).val = 256 * (i 1).val + r.val)
    (h0 : ∀ r d, x0 (ix3 0 r d) = e (p r) d) (h1 : ∀ q d, x1 (ix3 0 q d) = e q d)
    (r : Fin 256) (q : Fin 512) : chunk (F := Ideal) i (BitVec.ofNat 32 (512 * k.val))
      (shapeCast S256x128 x0 shapeCasts_S1x256x128_S256x128)
      (View.ld x1 (Rect.unit (s := S1x4096x128) ![0, 512 * k.val, 0] S1x512x128.size (inbRhs k))) (ix2 r q) =
    Masked.masked e (p r) ⟨512 * k.val + q.val, by omega⟩ := by
  pointwise [chunk, coordF, rowIx, colIx]
  have hr : Scalar.addi (Scalar.muli (BitVec.ofNat 32 ↑(i 1)) 256#32) (BitVec.ofNat 32 ↑r) = BitVec.ofNat 32 (p r).val := by
    rw [hp]
    show BitVec.ofNat 32 ↑(i 1) * BitVec.ofNat 32 256 + BitVec.ofNat 32 ↑r = _
    rw [← BitVec.ofNat_mul, ← BitVec.ofNat_add, Nat.mul_comm]
  have hq : Scalar.addi (BitVec.ofNat 32 (512 * k.val)) (BitVec.ofNat 32 ↑q) = BitVec.ofNat 32 (⟨512 * k.val + q.val, by omega⟩ : Fin 4096).val := by
    show BitVec.ofNat 32 (512 * k.val) + BitVec.ofNat 32 ↑q = _
    rw [← BitVec.ofNat_add]
  unfold Masked.masked
  refine congrArg₂ (· * ·) (sum_congr rfl fun d _ => by rw [h0]; exact congrArg _ (h1 _ d)) ?_
  rw [hr, hq, named_val, sit_rem, sit_rem, sit_quot, sit_quot]
  refine congrArg (fun z => 1 - Ideal.exp (z * ((-1 / 18 : ℝ) : EReal))) ?_
  norm_cast
  ring_nf

/-- The masked similarities of the rows `p` with all pixels. -/
def maskedArr (e : Fin 4096 → Fin 128 → EReal) (p : Fin 256 → Fin 4096) : Vec Ideal S256x4096 .f32 := fun j =>
  Masked.masked e (p (j 0)) (j 1)

/-- The scratch array at row `r` and column `q`. -/
theorem scratch_apply (i : grid1.Coords) (x0 : FVec Ideal S1x256x128 .f32) (x1 : FVec Ideal S1x4096x128 .f32)
    (e : Fin 4096 → Fin 128 → EReal) (p : Fin 256 → Fin 4096) (hp : ∀ r, (p r).val = 256 * (i 1).val + r.val)
    (h0 : ∀ r d, x0 (ix3 0 r d) = e (p r) d) (h1 : ∀ q d, x1 (ix3 0 q d) = e q d)
    (r : Fin 256) (q : Fin 4096) : scratch (F := Ideal) i x0 x1 (ix2 r q) = Masked.masked e (p r) q := by
  unfold scratch
  refine View.canon_apply_of_pieces (maskedArr e p) _ ?_ (ix2 r q) ?_
  · intro P hP x
    obtain ⟨k, hk, rfl⟩ := List.mem_map.mp hP
    obtain ⟨a, b, rfl⟩ : ∃ (a : Fin 256) (b : Fin 512), x = ix2 a b := ⟨x 0, x 1, Shape.idx_ext₂ rfl rfl⟩
    refine (chunk_apply i k x0 x1 e p hp h0 h1 a b).trans ?_
    refine congrArg₂ (Masked.masked e) (congrArg p (Fin.ext ?_)) (Fin.ext ?_)
    · show a.val = 0 + 1 * a.val; omega
    · show 512 * k.val + b.val = 512 * k.val + 1 * b.val; omega
  · have hk : q.val / 512 < 8 := by omega
    refine ⟨_, List.mem_map.mpr ⟨⟨q.val / 512, hk⟩, ?_, rfl⟩, ?_⟩
    · generalize (⟨q.val / 512, hk⟩ : Fin 8) = k
      revert k; decide
    · rw [Rect.mem_set_unit]
      intro a
      match a with
      | ⟨0, _⟩ => exact ⟨Nat.zero_le _, by show r.val < 0 + 256; omega⟩
      | ⟨1, _⟩ => exact ⟨by show 512 * (q.val / 512) ≤ q.val; omega, by show q.val < 512 * (q.val / 512) + 512; omega⟩

end Cert.KernelIdeal.Gen
-- ==== Proof.RefEmbed.lean ====
module

public import proofs.«01_k».proof.Proof.Gen.ReferenceIdeal.Read
public import proofs.«01_k».proof.Proof.Masked
public import proofs.«01_k».proof.Proof.Embed

@[expose] public section

set_option maxRecDepth 16384

/-! The reference's embedding and masked similarities, read at an index over the extended reals. -/

noncomputable section

namespace Cert.ReferenceIdeal.Read
open Idealize.ShloMosaic Finset

variable (x0 : (⟨S2x96x64x64, .f32⟩ : BufTy).Contents (Elt Ideal)) (x1 : (⟨S16x2x3, .f32⟩ : BufTy).Contents (Elt Ideal))
  (x2 : (⟨S64x96, .f32⟩ : BufTy).Contents (Elt Ideal)) (x3 : (⟨S64, .f32⟩ : BufTy).Contents (Elt Ideal))
  (x4 : (⟨S128x64, .f32⟩ : BufTy).Contents (Elt Ideal)) (x5 x6 : (⟨S128, .f32⟩ : BufTy).Contents (Elt Ideal))
  (x7 : (⟨S4096x1024, .f32⟩ : BufTy).Contents (Elt Ideal)) (x8 : (⟨S4096x2, .f32⟩ : BufTy).Contents (Elt Ideal))

/-- The mixed descriptors: row `p` of the mixing matrix times the column `d` of the pooled descriptors. -/
theorem mix_apply (b : Fin 2) (p : Fin 4096) (d : Fin 128) : val_main_v257 (F := Ideal) x0 x1 x2 x3 x4 x5 x6 x7 (ix3 b p d) =
    Spec.mix (fun p k => x7 (ix2 p k)) (fun k d => val_main_v255 (F := Ideal) x0 x1 x2 x3 x4 x5 x6 (ix3 b k d)) p d := by
  rw [val_main_v257_apply, val_main_v256_apply]
  unfold Spec.mix
  refine sum_congr rfl fun k _ => ?_
  rw [mul_comm]
  refine congrArg₂ (· * ·) (congrArg x7 ?_) (congrArg _ ?_)
  · funext a; match a with | ⟨0, _⟩ => rfl | ⟨1, _⟩ => rfl
  · funext a; match a with | ⟨0, _⟩ => rfl | ⟨1, _⟩ => rfl | ⟨2, _⟩ => rfl

/-- The embedding: the mixed descriptors, each row divided by its length. -/
theorem embed_apply (b : Fin 2) (p : Fin 4096) (d : Fin 128) : val_main_v262 (F := Ideal) x0 x1 x2 x3 x4 x5 x6 x7 (ix3 b p d) =
    Spec.unit (Spec.mix (fun p k => x7 (ix2 p k)) (fun k d => val_main_v255 (F := Ideal) x0 x1 x2 x3 x4 x5 x6 (ix3 b k d)) p) d := by
  rw [val_main_v262_apply, val_main_v261_apply, val_main_v260_apply, val_main_v259_apply, val_main_v258_apply, val_main_call7_v2_apply,
    val_main_call7_v1_apply, mix_apply]
  unfold Spec.unit
  show Ideal.div _ (max (Ideal.sqrt (Ideal.ofBits .f32 0#32 + _)) (Ideal.ofBits .f32 0x358637BD#32)) = _
  rw [Ideal.ofBits_zero_f32, zero_add]
  refine congrArg (fun z => Ideal.div _ (max (Ideal.sqrt z) _)) (sum_congr rfl fun k _ => ?_)
  rw [val_main_call7_v0_apply]
  have : idx_main_call7_v1 (idx_main_call7_v2 (idx_main_v261 (ix3 b p d))) k = ix3 b p k := by
    funext a; match a with | ⟨0, _⟩ => rfl | ⟨1, _⟩ => rfl | ⟨2, _⟩ => rfl
  rw [this, mix_apply]
  rfl

/-- The distance weight of two pixels, their places given by the grid argument. -/
theorem dist_apply (hx : ∀ p : Fin 4096, x8 (ix2 p 0) = (((p.val % 64 : ℕ) : ℝ) : EReal))
    (hy : ∀ p : Fin 4096, x8 (ix2 p 1) = (((p.val / 64 : ℕ) : ℝ) : EReal)) (p q : Fin 4096) :
    val_main_v16 (F := Ideal) x8 (ix2 p q) =
      (((((p.val % 64 : ℕ) : ℝ) - ((q.val % 64 : ℕ) : ℝ)) ^ 2 + (((p.val / 64 : ℕ) : ℝ) - ((q.val / 64 : ℕ) : ℝ)) ^ 2 : ℝ) : EReal) := by
  simp only [val_main_v16_apply, val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply]
  have e1 : idx_main_v0 (idx_main_v1 (idx_main_v4 (idx_main_v6 (ix2 p q)))) = ix2 p 0 := by
    funext a; match a with | ⟨0, _⟩ => exact Fin.ext (Nat.div_one _) | ⟨1, _⟩ => rfl
  have e2 : idx_main_v0 (idx_main_v1 (idx_main_v5 (idx_main_v7 (ix2 p q)))) = ix2 q 0 := by
    funext a; match a with | ⟨0, _⟩ => exact Fin.ext (Nat.div_one _) | ⟨1, _⟩ => rfl
  have e3 : idx_main_v2 (idx_main_v3 (idx_main_v10 (idx_main_v12 (ix2 p q)))) = ix2 p 1 := by
    funext a; match a with | ⟨0, _⟩ => exact Fin.ext (Nat.div_one _) | ⟨1, _⟩ => rfl
  have e4 : idx_main_v2 (idx_main_v3 (idx_main_v11 (idx_main_v13 (ix2 p q)))) = ix2 q 1 := by
    funext a; match a with | ⟨0, _⟩ => exact Fin.ext (Nat.div_one _) | ⟨1, _⟩ => rfl
  rw [e1, e2, e3, e4, hx, hx, hy, hy]
  simp only [EReal.coe_add, EReal.coe_sub, pow_two, EReal.coe_mul]
  rfl

theorem masked_apply (hx : ∀ p : Fin 4096, x8 (ix2 p 0) = (((p.val % 64 : ℕ) : ℝ) : EReal))
    (hy : ∀ p : Fin 4096, x8 (ix2 p 1) = (((p.val / 64 : ℕ) : ℝ) : EReal)) (b : Fin 2) (p q : Fin 4096) :
    val_main_v266 (F := Ideal) x0 x1 x2 x3 x4 x5 x6 x7 x8 (ix3 b p q) =
      Masked.masked (fun p d => val_main_v262 (F := Ideal) x0 x1 x2 x3 x4 x5 x6 x7 (ix3 b p d)) p q := by
  rw [val_main_v266_apply, val_main_v263_apply, val_main_v265_apply, val_main_v264_apply, val_main_v22_apply, val_main_v21_apply,
    val_main_v20_apply, val_main_v19_apply, val_main_v18_apply, val_main_v17_apply]
  have : idx_main_v264 (idx_main_v265 (ix3 b p q)) = ix2 p q := by
    funext a; match a with | ⟨0, _⟩ => rfl | ⟨1, _⟩ => rfl
  rw [this, dist_apply x8 hx hy]
  unfold Masked.masked
  generalize ((((p.val % 64 : ℕ) : ℝ) - ((q.val % 64 : ℕ) : ℝ)) ^ 2 + (((p.val / 64 : ℕ) : ℝ) - ((q.val / 64 : ℕ) : ℝ)) ^ 2 : ℝ) = D
  show _ * (Ideal.ofBits .f32 0x3F800000#32 - Ideal.exp (Ideal.div (-(D : EReal)) (Ideal.ofBits .f32 0x41900000#32))) = _
  rw [Consts.w_1, Consts.w_18, Ideal.div_coe (by norm_num : (18 : ℝ) ≠ 0)]
  have hD : (-(D : EReal)) * ((1 / 18 : ℝ) : EReal) = (D : EReal) * ((-1 / 18 : ℝ) : EReal) := by
    rw [← EReal.coe_neg, ← EReal.coe_mul, ← EReal.coe_mul]; congr 1; ring
  rw [hD, EReal.coe_one]
  refine congrArg (· * _) (sum_congr rfl fun k _ => congrArg₂ (· * ·) (congrArg _ ?_) (congrArg _ ?_))
  · funext a; match a with | ⟨0, _⟩ => rfl | ⟨1, _⟩ => rfl | ⟨2, _⟩ => rfl
  · funext a; match a with | ⟨0, _⟩ => rfl | ⟨1, _⟩ => rfl | ⟨2, _⟩ => rfl

end Cert.ReferenceIdeal.Read
-- ==== Proof.Scatter.lean ====
module

public import proofs.«01_k».proof.Proof.Gen.ReferenceIdeal
public import Idealize.ShloMosaic.Lib.Routing.OpsPair
public import Idealize.ShloMosaic.Lib.Pointwise

@[expose] public section

set_option maxRecDepth 16384

/-! A scatter that overwrites, read at an element: the update that lands there, or the operand's own entry. -/

noncomputable section

namespace Cert.Scatter
open Idealize.ShloMosaic

/-- Overwriting along a list: when only `j` writes, the last value is `j`'s. -/
theorem foldl_hit {ι α : Type} [DecidableEq ι] (P : ι → Prop) [DecidablePred P] (f : ι → α) (j : ι) (hj : P j) (hu : ∀ k, P k → k = j) :
    ∀ (l : List ι) (a : α), (j ∈ l ∨ a = f j) → l.foldl (fun r k => if P k then f k else r) a = f j
  | [], a, h => by
    rcases h with h | h
    · simp at h
    · exact h
  | k :: l, a, h => by
    rw [List.foldl_cons]
    by_cases hk : P k
    · rw [if_pos hk]
      exact foldl_hit P f j hj hu l _ (Or.inr (by rw [hu k hk]))
    · rw [if_neg hk]
      refine foldl_hit P f j hj hu l _ ?_
      rcases h with h | h
      · rcases List.mem_cons.mp h with h | h
        · exact absurd (h ▸ hj) hk
        · exact Or.inl h
      · exact Or.inr h

/-- Overwriting along a list when nothing writes. -/
theorem foldl_miss {ι α : Type} (P : ι → Prop) [DecidablePred P] (f : ι → α) (hu : ∀ k, ¬ P k) :
    ∀ (l : List ι) (a : α), l.foldl (fun r k => if P k then f k else r) a = a
  | [], _ => rfl
  | k :: l, a => by rw [List.foldl_cons, if_neg (hu k), foldl_miss P f hu l a]

variable {s si u : Shape} {w : ℕ} {α : Type}

/-- The scatter at one element, as a fold over the updates in order. -/
theorem at_eq (d : ScatterDims s si u) (x : s.Idx → α) (idx : IVec si w) (upd : u.Idx → α) (i : s.Idx) :
    Host.scatter d (fun _ b => b) x idx upd i = (List.finRange u.numel).foldl
      (fun r n => if d.resultIdx? (u.rowMajor.symm n) idx = some i then upd (u.rowMajor.symm n) else r) (x i) := by
  unfold Host.scatter
  generalize List.finRange u.numel = l
  induction l generalizing x with
  | nil => rfl
  | cons n l ih =>
    rw [List.foldl_cons, List.foldl_cons, ih]
    congr 1
    cases h : d.resultIdx? (u.rowMajor.symm n) idx with
    | none => simp
    | some i' =>
      by_cases e : i = i'
      · subst e; simp
      · have e' : ¬ some i' = some i := fun q => e (Option.some.inj q).symm
        simp [e, e']

/-- The element on which one update alone lands holds that update. -/
theorem hit (d : ScatterDims s si u) (x : s.Idx → α) (idx : IVec si w) (upd : u.Idx → α) (i : s.Idx) (j : u.Idx)
    (hj : d.resultIdx? j idx = some i) (hu : ∀ k, d.resultIdx? k idx = some i → k = j) :
    Host.scatter d (fun _ b => b) x idx upd i = upd j := by
  rw [at_eq]
  have := foldl_hit (fun n => d.resultIdx? (u.rowMajor.symm n) idx = some i) (fun n => upd (u.rowMajor.symm n)) (u.rowMajor j)
    (by rwa [Equiv.symm_apply_apply]) (fun k hk => by rw [← hu _ hk, Equiv.apply_symm_apply]) (List.finRange u.numel) (x i)
    (Or.inl (List.mem_finRange _))
  rw [Equiv.symm_apply_apply] at this
  exact this

/-- An element on which no update lands keeps the operand's entry. -/
theorem miss (d : ScatterDims s si u) (x : s.Idx → α) (idx : IVec si w) (upd : u.Idx → α) (i : s.Idx)
    (hu : ∀ k, d.resultIdx? k idx ≠ some i) : Host.scatter d (fun _ b => b) x idx upd i = x i := by
  rw [at_eq]
  exact foldl_miss _ (fun n => upd (u.rowMajor.symm n)) (fun k => hu _) _ _

/-- The values of a top-k: every position reads the operand where the stable sort of its line puts it. -/
theorem topK_fst (t : Shape) (n : ℕ) (hn : n < s.rank) (gt : α → α → BitVec 1) (x : s.Idx → α) (h : s.Slices (fun _ => 0) t) (j : t.Idx) :
    (Host.topK t n gt x h).1 j = (fun i : s.Idx => x (i.along ⟨n, hn⟩
      (sortedFrom (fun k k' => gt (x (i.along ⟨n, hn⟩ k)) (x (i.along ⟨n, hn⟩ k')) == 1#1) (i ⟨n, hn⟩))))
        (fun a => ⟨0 + (j (a.cast h.1.symm)).val, Nat.lt_of_lt_of_le (Nat.add_lt_add_left (Fin.isLt _) _) (h.2 a)⟩) := by
  unfold Host.topK Host.sort2
  simp only [dif_pos hn]
  rfl

/-- The places of a top-k: where the stable sort of the line reads. -/
theorem topK_snd (t : Shape) (n : ℕ) (hn : n < s.rank) (gt : α → α → BitVec 1) (x : s.Idx → α) (h : s.Slices (fun _ => 0) t) (j : t.Idx) :
    (Host.topK t n gt x h).2 j = (fun i : s.Idx => BitVec.ofNat 32
      (sortedFrom (fun k k' => gt (x (i.along ⟨n, hn⟩ k)) (x (i.along ⟨n, hn⟩ k')) == 1#1) (i ⟨n, hn⟩)).val)
        (fun a => ⟨0 + (j (a.cast h.1.symm)).val, Nat.lt_of_lt_of_le (Nat.add_lt_add_left (Fin.isLt _) _) (h.2 a)⟩) := by
  unfold Host.topK Host.sort2
  simp only [dif_pos hn]
  show BitVec.ofNat 32 _ = _
  simp [Shape.Idx.along]

end Cert.Scatter

namespace Cert.ReferenceIdeal
open Idealize.ShloMosaic

variable [Facts₀]

/-- An index triple's place in the table of index triples. -/
def at4 (b : Fin 2) (p : Fin 4096) (j : Fin 32) (a : Fin 3) : S2x4096x32x3.Idx := fun c => match c with
  | ⟨0, _⟩ => b
  | ⟨1, _⟩ => p
  | ⟨2, _⟩ => j
  | ⟨3, _⟩ => a

/-- Update `(b, p, j)` lands at `(b', p', q)` exactly when its index triple, read signed, is that. -/
theorem lands (idx : IVec S2x4096x32x3 32) (b b' : Fin 2) (p p' q : Fin 4096) (j : Fin 32) :
    scatter_S2x4096x4096_S2x4096x32x3_S2x4096x32_n_012_012_3.resultIdx? (ix3 b p j) idx = some (ix3 b' p' q) ↔
      (idx (at4 b p j 0)).toInt = b'.val ∧ (idx (at4 b p j 1)).toInt = p'.val ∧ (idx (at4 b p j 2)).toInt = q.val := by
  rw [Routing.resultIdx?_eq_some]
  have hs : ∀ a : Fin 3, scatter_S2x4096x4096_S2x4096x32x3_S2x4096x32_n_012_012_3.start (ix3 b p j) idx a = (idx (at4 b p j a)).toInt := by
    intro a
    unfold ScatterDims.start
    have hm : a ∈ scatter_S2x4096x4096_S2x4096x32x3_S2x4096x32_n_012_012_3.scatterDimsToOperandDims := by
      show a ∈ ([0, 1, 2] : List (Fin 3))
      fin_cases a <;> simp
    rw [dif_pos hm]
    refine congrArg (fun z => (idx z).toInt) (funext fun c => ?_)
    match a, c with
    | ⟨0, _⟩, ⟨0, _⟩ | ⟨0, _⟩, ⟨1, _⟩ | ⟨0, _⟩, ⟨2, _⟩ | ⟨0, _⟩, ⟨3, _⟩ => rfl
    | ⟨1, _⟩, ⟨0, _⟩ | ⟨1, _⟩, ⟨1, _⟩ | ⟨1, _⟩, ⟨2, _⟩ | ⟨1, _⟩, ⟨3, _⟩ => rfl
    | ⟨2, _⟩, ⟨0, _⟩ | ⟨2, _⟩, ⟨1, _⟩ | ⟨2, _⟩, ⟨2, _⟩ | ⟨2, _⟩, ⟨3, _⟩ => rfl
  have hw : ∀ a : Fin 3, scatter_S2x4096x4096_S2x4096x32x3_S2x4096x32_n_012_012_3.window (ix3 b p j) a = 0 := by
    intro a
    match a with
    | ⟨0, _⟩ => rfl
    | ⟨1, _⟩ => rfl
    | ⟨2, _⟩ => rfl
  constructor
  · intro h
    have h0 := h 0
    have h1 := h 1
    have h2 := h 2
    rw [hs, hw] at h0 h1 h2
    simp only [Nat.cast_zero, add_zero] at h0 h1 h2
    exact ⟨h0, h1, h2⟩
  · rintro ⟨h0, h1, h2⟩ a
    rw [hs, hw, Nat.cast_zero, add_zero]
    match a with
    | ⟨0, _⟩ => exact h0
    | ⟨1, _⟩ => exact h1
    | ⟨2, _⟩ => exact h2

end Cert.ReferenceIdeal
-- ==== Proof.Rank.lean ====
module

public import Idealize.ShloMosaic.Lib.SortFacts
public import Idealize.ShloMosaic.PureOps.Ideal

@[expose] public section

/-! The 32 greatest of a row: which places they are, how a stable sort and a threshold search both find them, and the
softmax over them as one dense row. -/

noncomputable section

namespace Cert.TopRow
open Idealize.ShloMosaic Finset
open scoped Classical

variable {N : ℕ} (s : Fin N → EReal)

/-- Place `p` comes before place `q`: its value is greater, or the values are equal and it is the lower place. -/
def Bef (p q : Fin N) : Prop := s q < s p ∨ (s p = s q ∧ p < q)

/-- How many places come before `q`. -/
def rank (q : Fin N) : ℕ := (univ.filter fun p => Bef s p q).card

/-- The dense row: the softmax of ten times the values at the `K` first places, zero elsewhere. -/
def rowOut (K : ℕ) (q : Fin N) : EReal :=
  if rank s q < K then Ideal.div (Ideal.exp (((10 : ℝ) : EReal) * s q))
    (∑ p, if rank s p < K then Ideal.exp (((10 : ℝ) : EReal) * s p) else 0) else 0

theorem bef_irrefl (p : Fin N) : ¬ Bef s p p := by
  rintro (h | ⟨-, h⟩)
  · exact lt_irrefl _ h
  · exact lt_irrefl _ h

theorem bef_total {p q : Fin N} (h : p ≠ q) : Bef s p q ∨ Bef s q p := by
  unfold Bef
  rcases lt_trichotomy (s p) (s q) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

theorem bef_trans {p q r : Fin N} (h : Bef s p q) (h' : Bef s q r) : Bef s p r := by
  unfold Bef at *
  rcases h with h | ⟨h, k⟩ <;> rcases h' with h' | ⟨h', k'⟩
  · exact Or.inl (h'.trans h)
  · exact Or.inl (h' ▸ h)
  · exact Or.inl (h.symm ▸ h')
  · exact Or.inr ⟨h.trans h', k.trans k'⟩

theorem bef_asymm {p q : Fin N} (h : Bef s p q) : ¬ Bef s q p := fun h' => bef_irrefl s p (bef_trans s h h')

/-- A stable sort by "greater" is the sort by "comes before". -/
theorem stableSort_eq : ∀ l : List (Fin N), l.Pairwise (· < ·) →
    stableSort (fun k k' => decide (s k' < s k)) l = stableSort (fun k k' => decide (Bef s k k')) l
  | [], _ => rfl
  | a :: l, h => by
    rw [List.pairwise_cons] at h
    unfold stableSort
    rw [stableSort_eq l h.2]
    refine insertBefore_congr _ _ a _ fun b hb => ?_
    have hb' : b ∈ l := (perm_stableSort _ l).mem_iff.mp hb
    have hab := h.1 b hb'
    unfold Bef
    refine decide_eq_decide.mpr ⟨Or.inl, ?_⟩
    rintro (h | ⟨-, h⟩)
    · exact h
    · exact absurd h (not_lt.mpr hab.le)

/-- The place a stable sort by "greater" puts at position `j`. -/
def place (j : Fin N) : Fin N := sortedFrom (fun k k' => decide (s k' < s k)) j

theorem place_bef {i j : Fin N} (h : i < j) : Bef s (place s i) (place s j) := by
  have e : ∀ k, place s k = sortedFrom (fun k k' => decide (Bef s k k')) k := by
    intro k
    unfold place sortedFrom
    have := stableSort_eq s (List.finRange N) (List.pairwise_lt_finRange N)
    simp only [sortPositions, List.get_eq_getElem, this]
    rfl
  have hn := sortedFrom_noInversion (fun k k' => decide (Bef s k k')) (fun k k' => decide (Bef s k k'))
    (fun a b hab => by simpa using bef_asymm s (by simpa using hab)) (fun a b h => h)
    (fun a b c hab hbc => by
      simp only [decide_eq_false_iff_not] at *
      intro hac
      by_cases h1 : a = b
      · exact hbc (h1 ▸ hac)
      · by_cases h2 : b = c
        · exact hab (h2 ▸ hac)
        · exact bef_irrefl s a (bef_trans s (bef_trans s hac ((bef_total s h2).resolve_left hbc)) ((bef_total s h1).resolve_left hab)))
    i j h
  rw [← e, ← e] at hn
  have hne : place s i ≠ place s j := fun e' => h.ne (sortedFrom_injective _ e')
  exact (bef_total s hne).resolve_right (by simpa using hn)

/-- The place at position `j` has exactly `j` places before it. -/
theorem rank_place (j : Fin N) : rank s (place s j) = j.val := by
  unfold rank
  have : (univ.filter fun p => Bef s p (place s j)) = (Finset.Iio j).image (place s) := by
    ext p
    simp only [mem_filter, mem_univ, true_and, mem_image, Finset.mem_Iio]
    constructor
    · intro h
      obtain ⟨i, rfl⟩ := sortedFrom_surjective (fun k k' => decide (s k' < s k)) p
      change Bef s (place s i) (place s j) at h
      refine ⟨i, ?_, rfl⟩
      by_contra hij
      rcases (not_lt.mp hij).eq_or_lt with e | e
      · exact bef_irrefl s _ (e ▸ h)
      · exact bef_asymm s h (place_bef s e)
    · rintro ⟨i, hi, rfl⟩
      exact place_bef s hi
  rw [this, card_image_of_injective _ (show Function.Injective (place s) from sortedFrom_injective _), Fin.card_Iio]

theorem rank_lt (q : Fin N) : rank s q < N := by
  obtain ⟨j, rfl⟩ := sortedFrom_surjective (fun k k' => decide (s k' < s k)) q
  exact (rank_place s j).trans_lt j.isLt

/-- The position of a place is its rank. -/
theorem place_rank (q : Fin N) : place s ⟨rank s q, rank_lt s q⟩ = q := by
  obtain ⟨j, hj⟩ : ∃ j, place s j = q := sortedFrom_surjective (fun k k' => decide (s k' < s k)) q
  subst hj
  exact congrArg (place s) (Fin.ext (rank_place s j))

/-- A sum over the first `K` places is a sum over the first `K` positions. -/
theorem sum_rank {K : ℕ} (hK : K ≤ N) (f : Fin N → EReal) :
    (∑ p, if rank s p < K then f p else 0) = ∑ j : Fin K, f (place s (j.castLE hK)) := by
  rw [← sum_filter]
  refine (sum_bij (fun (j : Fin K) _ => place s (j.castLE hK)) ?_ ?_ ?_ ?_).symm
  · intro j _
    simp [rank_place]
  · intro a _ b _ h
    exact Fin.castLE_injective hK (sortedFrom_injective _ h)
  · intro p hp
    exact ⟨⟨rank s p, by simpa using hp⟩, mem_univ _, place_rank s p⟩
  · intro j _; rfl

/-- A threshold with fewer than `K` values above it and at least `K` not below it selects the `K` first places: all
above it, and the lowest of those at it. -/
theorem sel_iff {K : ℕ} (thr : EReal) (h1 : (univ.filter fun p => thr < s p).card < K)
    (h2 : K ≤ (univ.filter fun p => thr ≤ s p).card) (q : Fin N) :
    (thr < s q ∨ (s q = thr ∧ (univ.filter fun p => p ≤ q ∧ s p = thr).card + (univ.filter fun p => thr < s p).card ≤ K))
      ↔ rank s q < K := by
  unfold rank
  rcases lt_trichotomy thr (s q) with h | h | h
  · refine iff_of_true (Or.inl h) (lt_of_le_of_lt (card_le_card ?_) h1)
    intro p hp
    simp only [mem_filter, mem_univ, true_and] at hp ⊢
    rcases hp with hp | ⟨hp, -⟩
    · exact h.trans hp
    · exact hp ▸ h
  · have e1 : (univ.filter fun p => p ≤ q ∧ s p = thr) = insert q (univ.filter fun p => p < q ∧ s p = thr) := by
      ext p
      simp only [mem_filter, mem_univ, true_and, mem_insert]
      constructor
      · rintro ⟨a, b⟩
        rcases a.eq_or_lt with a | a
        · exact Or.inl a
        · exact Or.inr ⟨a, b⟩
      · rintro (rfl | ⟨a, b⟩)
        · exact ⟨le_rfl, h.symm⟩
        · exact ⟨a.le, b⟩
    have e2 : (univ.filter fun p => Bef s p q) = (univ.filter fun p => p < q ∧ s p = thr) ∪ (univ.filter fun p => thr < s p) := by
      ext p
      simp only [mem_filter, mem_univ, true_and, mem_union, Bef, ← h]
      tauto
    rw [e1, card_insert_of_notMem (by simp), e2, card_union_of_disjoint
      (disjoint_left.mpr fun p hp hp' => by
        simp only [mem_filter, mem_univ, true_and] at hp hp'
        exact absurd hp' (hp.2 ▸ lt_irrefl _))]
    constructor
    · rintro (h' | ⟨-, h'⟩)
      · exact absurd h' (h ▸ lt_irrefl _)
      · omega
    · intro h'
      exact Or.inr ⟨h.symm, by omega⟩
  · refine iff_of_false ?_ (not_lt.mpr (h2.trans (card_le_card ?_)))
    · rintro (h' | ⟨h', -⟩)
      · exact lt_asymm h h'
      · exact absurd h (h' ▸ lt_irrefl _)
    · intro p hp
      simp only [mem_filter, mem_univ, true_and] at hp ⊢
      exact Or.inl (h.trans_le hp)

/-- The greatest value of a row. -/
def rmax (x : Fin N → EReal) : EReal := (univ : Finset (Fin N)).fold max ⊥ x

theorem le_rmax (x : Fin N → EReal) (p : Fin N) : x p ≤ rmax x :=
  (Finset.le_fold_max (x p)).mpr (Or.inr ⟨p, mem_univ p, le_rfl⟩)

theorem exists_rmax (x : Fin N → EReal) (hN : 0 < N) : ∃ p, x p = rmax x := by
  by_contra h
  simp only [not_exists] at h
  have hlt : ∀ p, x p < rmax x := fun p => lt_of_le_of_ne (le_rmax x p) (h p)
  have : rmax x < rmax x := by
    refine (Finset.fold_max_lt (rmax x)).mpr ⟨lt_of_le_of_lt bot_le (hlt ⟨0, hN⟩), fun p _ => hlt p⟩
  exact lt_irrefl _ this

/-- One trip of the search: while fewer than 32 are counted, every place at the row's maximum is masked by −3 and
counted, and the threshold is that maximum. -/
def rstep (x : (Fin N → EReal) × EReal × EReal) : (Fin N → EReal) × EReal × EReal :=
  (fun p => if x.2.1 < ((32 : ℝ) : EReal) ∧ x.1 p = rmax x.1 then ((-3 : ℝ) : EReal) else x.1 p,
    x.2.1 + (if x.2.1 < ((32 : ℝ) : EReal) then ∑ p, (if x.1 p = rmax x.1 then ((1 : ℝ) : EReal) else 0) else 0),
    if x.2.1 < ((32 : ℝ) : EReal) then rmax x.1 else x.2.2)

theorem sum_ind (P : Fin N → Prop) [DecidablePred P] :
    (∑ p, (if P p then ((1 : ℝ) : EReal) else 0)) = (((univ.filter P).card : ℝ) : EReal) := by
  have : ∀ S : Finset (Fin N), (∑ p ∈ S, (if P p then ((1 : ℝ) : EReal) else 0)) = (((S.filter P).card : ℝ) : EReal) := by
    intro S
    induction S using Finset.induction_on with
    | empty => simp
    | insert a S ha ih =>
      rw [sum_insert ha, ih, filter_insert]
      by_cases h : P a
      · rw [if_pos h, if_pos h, card_insert_of_notMem (by simp [ha]), ← EReal.coe_add, Nat.cast_add, Nat.cast_one, add_comm]
      · rw [if_neg h, if_neg h, zero_add]
  exact this univ

/-- What holds after `t` trips. -/
structure Inv (t : ℕ) (x : (Fin N → EReal) × EReal × EReal) : Prop where
  ex : ∃ M : Finset (Fin N), (∀ p, x.1 p = if p ∈ M then ((-3 : ℝ) : EReal) else s p) ∧ x.2.1 = ((M.card : ℝ) : EReal) ∧
    min t 32 ≤ M.card ∧ (t = 0 ∧ M = ∅ ∨ (M = univ.filter fun p => x.2.2 ≤ s p) ∧ (univ.filter fun p => x.2.2 < s p).card < 32)

theorem inv_step (hN : 32 ≤ N) (hs : ∀ p, ((-3 : ℝ) : EReal) < s p) (t : ℕ) (x : (Fin N → EReal) × EReal × EReal)
    (h : Inv s t x) : Inv s (t + 1) (rstep x) := by
  obtain ⟨M, hx, hk, ht, hM⟩ := h.ex
  have hlt : (x.2.1 < ((32 : ℝ) : EReal)) ↔ M.card < 32 := by
    rw [hk, EReal.coe_lt_coe_iff]; exact_mod_cast Iff.rfl
  by_cases hl : M.card < 32
  · have hl' := hlt.mpr hl
    set m := rmax x.1 with hm
    have hr : (rstep x).2.2 = m := if_pos hl'
    have hne : ∃ p, p ∉ M := by
      by_contra hall
      simp only [not_exists, not_not] at hall
      have : M = univ := eq_univ_iff_forall.mpr hall
      rw [this, card_univ, Fintype.card_fin] at hl
      omega
    obtain ⟨p0, hp0⟩ := hne
    have hm3 : ((-3 : ℝ) : EReal) < m := by
      refine lt_of_lt_of_le (hs p0) ?_
      have := le_rmax x.1 p0
      rwa [hx p0, if_neg hp0] at this
    have hle : ∀ p, p ∉ M → s p ≤ m := fun p hp => by
      have := le_rmax x.1 p
      rwa [hx p, if_neg hp] at this
    obtain ⟨pm, hpm⟩ := exists_rmax x.1 (by omega)
    have hpmM : pm ∉ M := by
      intro hin
      rw [hx pm, if_pos hin] at hpm
      exact absurd hm3 (hpm ▸ lt_irrefl _)
    have hspm : s pm = m := by rw [hx pm, if_neg hpmM] at hpm; exact hpm
    have hhit : ∀ p, x.1 p = m ↔ p ∉ M ∧ s p = m := by
      intro p
      by_cases hp : p ∈ M
      · rw [hx p, if_pos hp]; exact iff_of_false (fun e => absurd hm3 (e ▸ lt_irrefl _)) (fun h => h.1 hp)
      · rw [hx p, if_neg hp]; exact ⟨fun e => ⟨hp, e⟩, fun h => h.2⟩
    -- a masked place is above every unmasked one
    have hMup : ∀ p, p ∈ M → m < s p := by
      intro p hp
      rcases hM with ⟨-, e⟩ | ⟨e, -⟩
      · rw [e] at hp; simp at hp
      · rw [e] at hp hpmM
        simp only [mem_filter, mem_univ, true_and, not_le] at hp hpmM
        exact hspm ▸ hpmM.trans_le hp
    have hMeq : M = univ.filter fun p => m < s p := by
      ext p
      simp only [mem_filter, mem_univ, true_and]
      exact ⟨hMup p, fun h => by by_contra hp; exact absurd (hle p hp) (not_le.mpr h)⟩
    have hdis : Disjoint M (univ.filter fun p => x.1 p = m) := disjoint_left.mpr fun p hp hp' => by
      simp only [mem_filter, mem_univ, true_and] at hp'
      exact ((hhit p).mp hp').1 hp
    have hcard : 1 ≤ (univ.filter fun p => x.1 p = m).card := card_pos.mpr ⟨pm, by simp only [mem_filter, mem_univ, true_and]; exact hpm⟩
    refine ⟨⟨M ∪ univ.filter (fun p => x.1 p = m), ?_, ?_, ?_, Or.inr ⟨?_, ?_⟩⟩⟩
    · intro p
      have hp : (rstep x).1 p = if x.1 p = m then ((-3 : ℝ) : EReal) else x.1 p := by
        unfold rstep; simp only [hl', true_and]; rfl
      rw [hp]
      rw [if_congr (P := p ∈ M ∪ univ.filter fun p => x.1 p = m) (Q := p ∈ M ∨ x.1 p = m) (by simp only [mem_union, mem_filter, mem_univ, true_and]) rfl rfl]
      by_cases h1 : x.1 p = m
      · rw [if_pos h1, if_pos (Or.inr h1)]
      · refine (if_neg h1).trans ((hx p).trans ?_)
        by_cases h2 : p ∈ M
        · rw [if_pos h2, if_pos (Or.inl h2)]
        · rw [if_neg h2, if_neg (fun h => h.elim h2 h1)]
    · show x.2.1 + _ = _
      rw [if_pos hl', ← hm, sum_ind, hk, ← EReal.coe_add, card_union_of_disjoint hdis, Nat.cast_add]
    · rw [card_union_of_disjoint hdis]; omega
    · rw [hr]
      ext p
      simp only [mem_union, mem_filter, mem_univ, true_and]
      rw [hhit p, hMeq]
      simp only [mem_filter, mem_univ, true_and, not_lt]
      constructor
      · rintro (h | ⟨-, h⟩)
        · exact h.le
        · exact h.ge
      · intro h
        rcases h.lt_or_eq with h | h
        · exact Or.inl h
        · exact Or.inr ⟨h.ge, h.symm⟩
    · rw [hr, ← hMeq]
      exact hl
  · have hl' : ¬ x.2.1 < ((32 : ℝ) : EReal) := fun h => hl (hlt.mp h)
    have hM' := hM.resolve_left fun h => hl (by rw [h.2]; simp)
    have hr : (rstep x).2.2 = x.2.2 := if_neg hl'
    refine ⟨⟨M, ?_, ?_, by omega, Or.inr ⟨?_, ?_⟩⟩⟩
    · intro p
      simp only [rstep, hl', false_and, if_false]
      exact hx p
    · show x.2.1 + _ = _
      rw [if_neg hl', add_zero, hk]
    · rw [hr]; exact hM'.1
    · rw [hr]; exact hM'.2

/-- After 32 trips the threshold has fewer than 32 values above it and at least 32 not below it. -/
theorem thr_spec (hN : 32 ≤ N) (hs : ∀ p, ((-3 : ℝ) : EReal) < s p) :
    (univ.filter fun p => (rstep^[32] (s, 0, ((-3 : ℝ) : EReal))).2.2 < s p).card < 32 ∧
      32 ≤ (univ.filter fun p => (rstep^[32] (s, 0, ((-3 : ℝ) : EReal))).2.2 ≤ s p).card := by
  have h : ∀ t, Inv s t (rstep^[t] (s, 0, ((-3 : ℝ) : EReal))) := by
    intro t
    induction t with
    | zero => exact ⟨⟨∅, by simp, by simp, by simp, Or.inl ⟨rfl, rfl⟩⟩⟩
    | succ t ih =>
      rw [Function.iterate_succ_apply']
      exact inv_step s hN hs t _ ih
  obtain ⟨M, -, -, h3, h4⟩ := (h 32).ex
  have h4' := h4.resolve_left (by simp)
  exact ⟨h4'.2, h4'.1 ▸ h3⟩

end Cert.TopRow
-- ==== Proof.Bounds.lean ====
module

public import proofs.«01_k».proof.Proof.Embed
public import proofs.«01_k».proof.Proof.Masked

@[expose] public section

/-! A normalised vector is real with norm at most one, whatever it was made from; so masked similarities are real and at
most one in absolute value. -/

noncomputable section

namespace Cert.Spec
open Idealize.ShloMosaic Finset

theorem sq_nonneg' (x : EReal) : 0 ≤ x * x := by
  rcases le_total 0 x with h | h
  · exact EReal.mul_nonneg h h
  · have h' : 0 ≤ -x := EReal.neg_nonneg.mpr h
    have := EReal.mul_nonneg h' h'
    rwa [neg_mul_neg] at this

/-- A finite sum of reals, seen in the extended reals. -/
theorem sum_coe {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [sum_insert ha, sum_insert ha, ih, EReal.coe_add]

/-- A normalised vector is real with norm at most one. -/
theorem unit_real (x : Fin 128 → EReal) : ∃ u : Fin 128 → ℝ, (∀ d, unit x d = ((u d : ℝ) : EReal)) ∧ ∑ d, u d * u d ≤ 1 := by
  by_cases h : ∀ d, ∃ r : ℝ, x d = (r : EReal)
  · choose y hy using h
    have hs : (∑ d', x d' * x d') = ((∑ d, y d * y d : ℝ) : EReal) := by
      rw [← sum_coe]; exact sum_congr rfl fun d _ => by rw [hy, EReal.coe_mul]
    have hs0 : 0 ≤ ∑ d, y d * y d := sum_nonneg fun d _ => mul_self_nonneg _
    set S := ∑ d, y d * y d with hS
    set n : ℝ := max (Real.sqrt S) (8796093 / 2 ^ 43) with hn
    have hn0 : 0 < n := lt_of_lt_of_le (by norm_num) (le_max_right _ _)
    have hden : max (Ideal.sqrt (∑ d', x d' * x d')) (Ideal.ofBits .f32 0x358637BD#32) = (n : EReal) := by
      rw [hs, Consts.w_eps, Ideal.sqrt_coe, if_neg (not_lt.mpr hs0)]
      exact (EReal.coe_strictMono.monotone.map_max).symm
    refine ⟨fun d => y d * n⁻¹, fun d => ?_, ?_⟩
    · unfold unit Ideal.div
      rw [hden, if_neg (by exact_mod_cast hn0.ne'), hy, ← EReal.coe_inv, ← EReal.coe_mul]
    · have : ∑ d, y d * n⁻¹ * (y d * n⁻¹) = S * (n⁻¹ * n⁻¹) := by
        rw [hS, sum_mul]; exact sum_congr rfl fun d _ => by ring
      rw [this]
      have h1 : S ≤ n * n := by
        have := mul_self_le_mul_self (Real.sqrt_nonneg S) (le_max_left (Real.sqrt S) (8796093 / 2 ^ 43))
        rwa [Real.mul_self_sqrt hs0] at this
      calc S * (n⁻¹ * n⁻¹) ≤ n * n * (n⁻¹ * n⁻¹) := mul_le_mul_of_nonneg_right h1 (by positivity)
        _ = 1 := by field_simp
  · push Not at h
    obtain ⟨d₀, hd₀⟩ := h
    have hs : (∑ d', x d' * x d') = ⊤ := by
      have h1 : x d₀ * x d₀ = ⊤ := by
        generalize x d₀ = y at hd₀
        induction y with
        | bot => exact EReal.bot_mul_bot
        | top => exact EReal.top_mul_top
        | coe y => exact absurd rfl (hd₀ y)
      refine top_le_iff.mp ?_
      rw [← h1]
      exact single_le_sum (f := fun d => x d * x d) (fun d _ => sq_nonneg' _) (mem_univ d₀)
    refine ⟨fun _ => 0, fun d => ?_, by simp⟩
    unfold unit Ideal.div
    rw [hs, Ideal.sqrt_top, max_eq_left le_top, if_neg (by simp), EReal.inv_top, mul_zero]
    rfl

/-- The masked similarities of normalised rows are real and at most one in absolute value. -/
theorem masked_real (e : Fin 4096 → Fin 128 → EReal) (y : Fin 4096 → Fin 128 → EReal) (he : ∀ p, e p = unit (y p)) :
    ∃ s : Fin 4096 → Fin 4096 → ℝ, ∀ p q, Masked.masked e p q = ((s p q : ℝ) : EReal) ∧ -1 ≤ s p q := by
  choose u hu hn using fun p => unit_real (y p)
  have hu' : ∀ p d, e p d = ((u p d : ℝ) : EReal) := fun p d => by rw [he]; exact hu p d
  refine ⟨fun p q => (∑ d, u p d * u q d) * (1 - Real.exp (((((p.val % 64 : ℕ) : ℝ) - ((q.val % 64 : ℕ) : ℝ)) ^ 2
    + (((p.val / 64 : ℕ) : ℝ) - ((q.val / 64 : ℕ) : ℝ)) ^ 2) * (-1 / 18))), fun p q => ⟨?_, ?_⟩⟩
  · unfold Masked.masked
    rw [show (∑ k, e p k * e q k) = ((∑ d, u p d * u q d : ℝ) : EReal) by
      rw [← sum_coe]; exact sum_congr rfl fun d _ => by rw [hu', hu', EReal.coe_mul]]
    rw [← EReal.coe_mul, Ideal.exp_coe, EReal.coe_mul, EReal.coe_sub, EReal.coe_one]
  · dsimp only
    set D : ℝ := ((((p.val % 64 : ℕ) : ℝ) - ((q.val % 64 : ℕ) : ℝ)) ^ 2
      + (((p.val / 64 : ℕ) : ℝ) - ((q.val / 64 : ℕ) : ℝ)) ^ 2) * (-1 / 18) with hD
    have hD0 : D ≤ 0 := by
      have : 0 ≤ (((p.val % 64 : ℕ) : ℝ) - ((q.val % 64 : ℕ) : ℝ)) ^ 2 + (((p.val / 64 : ℕ) : ℝ) - ((q.val / 64 : ℕ) : ℝ)) ^ 2 := by positivity
      rw [hD]; linarith
    have h1 := Real.exp_pos D
    have h2 : Real.exp D ≤ 1 := Real.exp_le_one_iff.mpr hD0
    have h3 : -1 ≤ ∑ d, u p d * u q d := by
      have h4 : 0 ≤ ∑ d, (u p d + u q d) * (u p d + u q d) := sum_nonneg fun d _ => mul_self_nonneg _
      have h5 : ∑ d, (u p d + u q d) * (u p d + u q d) = ∑ d, u p d * u p d + 2 * ∑ d, u p d * u q d + ∑ d, u q d * u q d := by
        rw [mul_sum, ← sum_add_distrib, ← sum_add_distrib]; exact sum_congr rfl fun d _ => by ring
      linarith [hn p, hn q]
    nlinarith

/-- So they lie above minus three. -/
theorem masked_gt (e : Fin 4096 → Fin 128 → EReal) (y : Fin 4096 → Fin 128 → EReal) (he : ∀ p, e p = unit (y p)) (p q : Fin 4096) :
    ((-3 : ℝ) : EReal) < Masked.masked e p q := by
  obtain ⟨s, hs⟩ := masked_real e y he
  rw [(hs p q).1, EReal.coe_lt_coe_iff]
  linarith [(hs p q).2]

end Cert.Spec
-- ==== Proof.Group.lean ====
module

public import proofs.«01_k».proof.Proof.Affinity
public import proofs.«01_k».proof.Proof.Rank
public import proofs.«01_k».proof.Proof.Consts
public import Idealize.ShloMosaic.Lib.Pointwise

@[expose] public section

set_option maxRecDepth 16384

/-! The affinity kernel's function of eight rows, read at an index over the extended reals: each row becomes the softmax
over its 32 greatest values, zero elsewhere. -/

noncomputable section

namespace Cert.KernelIdeal.Gen
open Idealize.ShloMosaic Idealize.ShloMosaic.TcCoe Idealize.ShloMosaic.Tactic Idealize.ShloMosaic.Pointwise Cert.TopRow Finset
open scoped Classical

/-- A one-bit truth value widened and converted to a float is one or zero. -/
theorem ind_val (P : Prop) [Decidable P] : FloatOps.sitofp (F := Ideal) .f32 (BitVec.setWidth 32 (BitVec.ofBool (decide P))) =
    if P then ((1 : ℝ) : EReal) else 0 := by
  show (((BitVec.setWidth 32 (BitVec.ofBool (decide P))).toInt : ℝ) : EReal) = _
  by_cases h : P
  · rw [if_pos h, decide_eq_true h, show (BitVec.setWidth 32 (BitVec.ofBool true)).toInt = 1 by decide]; norm_num
  · rw [if_neg h, decide_eq_false h]; norm_num

/-- A selection by the conjunction of two comparisons. -/
theorem sel_and (A B : Prop) [Decidable A] [Decidable B] (a b : EReal) :
    Scalar.select (IntOp.andi (BitVec.ofBool (decide A)) (BitVec.ofBool (decide B))) a b = if A ∧ B then a else b := by
  by_cases hA : A <;> by_cases hB : B <;> simp [hA, hB, Scalar.select, IntOp.andi]

/-- A selection by one comparison, or the conjunction of two. -/
theorem sel_or (A B C : Prop) [Decidable A] [Decidable B] [Decidable C] (a b : EReal) :
    Scalar.select (IntOp.ori (BitVec.ofBool (decide A)) (IntOp.andi (BitVec.ofBool (decide B)) (BitVec.ofBool (decide C)))) a b =
      if A ∨ (B ∧ C) then a else b := by
  by_cases hA : A <;> by_cases hB : B <;> by_cases hC : C <;> simp [hA, hB, hC, Scalar.select, IntOp.andi, IntOp.ori]

/-- Row `r` of a search state. -/
def rowSt (x : FVec Ideal S8x4096 .f32 × FVec Ideal S8x1 .f32 × FVec Ideal S8x1 .f32) (r : Fin 8) :
    (Fin 4096 → EReal) × EReal × EReal := (fun q => x.1 (ix2 r q), x.2.1 (ix2 r 0), x.2.2 (ix2 r 0))

/-- A trip acts on each row by itself. -/
theorem rowSt_trip (x : FVec Ideal S8x4096 .f32 × FVec Ideal S8x1 .f32 × FVec Ideal S8x1 .f32) (r : Fin 8) :
    rowSt (trip (F := Ideal) x) r = rstep (rowSt x r) := by
  refine Prod.ext (funext fun q => ?_) (Prod.ext ?_ ?_)
  · show k1_pay62 (F := Ideal) x.1 x.2.1 (ix2 r q) = _
    pointwise [k1_pay62, k1_pay61, k1_pay60, k1_pay59]
    rw [sel_and, Consts.w_32, Consts.w_neg3, Consts.w_neg_inf]
    simp only [rstep, rowSt, rmax]
    congr
  · show k1_pay64 (F := Ideal) x.1 x.2.1 (ix2 r 0) = _
    pointwise [k1_pay64, k1_pay61, k1_pay60, k1_pay59]
    simp only [ind_val]
    rw [Consts.w_32, Consts.w_neg_inf]
    simp only [rstep, rowSt, rmax]
    congr
  · show k1_pay63 (F := Ideal) x.1 x.2.1 x.2.2 (ix2 r 0) = _
    pointwise [k1_pay63, k1_pay61, k1_pay60, k1_pay59]
    rw [Consts.w_32, Consts.w_neg_inf]
    simp only [rstep, rowSt, rmax]
    congr

theorem trips32 : k1_t1_loop.trips = 32 := by decide +kernel

/-- The threshold of row `r` is the row search's after 32 trips. -/
theorem thrOf_apply (s : FVec Ideal S8x4096 .f32) (r : Fin 8) :
    thrOf (F := Ideal) s (ix2 r 0) = (rstep^[32] (fun q => s (ix2 r q), 0, ((-3 : ℝ) : EReal))).2.2 := by
  unfold thrOf
  rw [Scf.fold_eq]
  have h0 : rowSt (s, k1_pay57 (F := Ideal), k1_pay58 (F := Ideal)) r = (fun q => s (ix2 r q), 0, ((-3 : ℝ) : EReal)) := by
    refine Prod.ext rfl (Prod.ext ?_ ?_)
    · show k1_pay57 (F := Ideal) (ix2 r 0) = _
      pointwise [k1_pay57]
    · show k1_pay58 (F := Ideal) (ix2 r 0) = _
      pointwise [k1_pay58]
      exact Consts.w_neg3
  have key : ∀ (n : ℕ) (l : List (Fin k1_t1_loop.trips)) (x : FVec Ideal S8x4096 .f32 × FVec Ideal S8x1 .f32 × FVec Ideal S8x1 .f32),
      l.length = n → rowSt (l.foldl (fun acc _ => trip (F := Ideal) acc) x) r = rstep^[n] (rowSt x r) := by
    intro n
    induction n with
    | zero => intro l x hl; rw [List.length_eq_zero_iff.mp hl]; rfl
    | succ n ih =>
      intro l x hl
      match l, hl with
      | _ :: l, hl =>
        rw [List.foldl_cons, ih l _ (by simpa using hl), rowSt_trip]
        rfl
  have := key 32 (List.finRange k1_t1_loop.trips) (s, k1_pay57, k1_pay58) (by rw [List.length_finRange, trips32])
  rw [h0] at this
  exact congrArg (fun y => y.2.2) this

/-- One doubling step of the running count: a vector plus itself moved `w` lanes up. -/
def sh (w w' : ℕ) (hs : S8x4096.Slices ![0, 0] ⟨2, ![8, w']⟩)
    (hc : Shape.Concatenates [⟨2, ![8, w]⟩, ⟨2, ![8, w']⟩] S8x4096 1) (u : FVec Ideal S8x4096 .f32) : FVec Ideal S8x4096 .f32 :=
  addf u (concatenate S8x4096 1 [⟨⟨2, ![8, w]⟩, broadcast ⟨2, ![8, w]⟩ (Scalar.ofBits (F := Ideal) .f32 0x00000000#32)⟩,
    ⟨⟨2, ![8, w']⟩, extractStridedSlice ⟨2, ![8, w']⟩ ![0, 0] u hs⟩] hc)

/-- How many of the `w` places up to `q` satisfy `e`. -/
def wcnt (e : Fin 4096 → Prop) (w : ℕ) (q : Fin 4096) : ℕ := (univ.filter fun p => p ≤ q ∧ q.val < p.val + w ∧ e p).card

theorem wcnt_double (e : Fin 4096 → Prop) (w : ℕ) (q : Fin 4096) :
    wcnt e (w + w) q = wcnt e w q + if h : q.val < w then 0 else wcnt e w ⟨q.val - w, by omega⟩ := by
  unfold wcnt
  by_cases h : q.val < w
  · rw [dif_pos h, Nat.add_zero]
    refine congrArg card (filter_congr fun p _ => ?_)
    constructor
    · rintro ⟨a, b, c⟩; exact ⟨a, by omega, c⟩
    · rintro ⟨a, b, c⟩; exact ⟨a, by omega, c⟩
  · rw [dif_neg h, ← card_union_of_disjoint]
    · refine congrArg card ?_
      ext p
      simp only [mem_filter, mem_univ, true_and, mem_union, Fin.le_def]
      constructor
      · rintro ⟨a, b, c⟩
        by_cases h' : q.val < p.val + w
        · exact Or.inl ⟨a, h', c⟩
        · exact Or.inr ⟨by omega, by omega, c⟩
      · rintro (⟨a, b, c⟩ | ⟨a, b, c⟩)
        · exact ⟨a, by omega, c⟩
        · exact ⟨by omega, by omega, c⟩
    · refine disjoint_left.mpr fun p hp hp' => ?_
      simp only [mem_filter, mem_univ, true_and, Fin.le_def] at hp hp'
      omega

theorem sh_apply (w w' : ℕ) (hs : S8x4096.Slices ![0, 0] ⟨2, ![8, w']⟩)
    (hc : Shape.Concatenates [⟨2, ![8, w]⟩, ⟨2, ![8, w']⟩] S8x4096 1) (u : FVec Ideal S8x4096 .f32) (r : Fin 8)
    (e : Fin 4096 → Prop) (h : ∀ q, u (ix2 r q) = ((wcnt e w q : ℝ) : EReal)) (q : Fin 4096) :
    sh w w' hs hc u (ix2 r q) = ((wcnt e (w + w) q : ℝ) : EReal) := by
  rw [wcnt_double, Nat.cast_add, EReal.coe_add, ← h q]
  pointwise [sh]
  refine congrArg (u (ix2 r q) + ·) ?_
  by_cases hq : q.val < w
  · rw [dif_pos hq, dif_pos hq]; simp
  · rw [dif_neg hq, dif_neg hq, ← h]
    refine congrArg u ?_
    refine Shape.idx_ext₂ ?_ ?_
    · simp [Shape.Idx.norm]
    · simp [Shape.Idx.norm]

/-- The running count of the places satisfying `e`, after the first ten doublings. -/
theorem pay69_apply (v : IVec S8x4096 1) (r : Fin 8) (e : Fin 4096 → Prop)
    (h : ∀ q, v (ix2 r q) = BitVec.ofBool (decide (e q))) (q : Fin 4096) :
    k1_pay69 (F := Ideal) v (ix2 r q) = ((wcnt e 1024 q : ℝ) : EReal) := by
  have hd : k1_pay69 (F := Ideal) v = sh 512 _ slices_S8x4096_o0_0_S8x3584 concatenates_S8x512_S8x3584_S8x4096_d1
    (sh 256 _ slices_S8x4096_o0_0_S8x3840 concatenates_S8x256_S8x3840_S8x4096_d1
    (sh 128 _ slices_S8x4096_o0_0_S8x3968 concatenates_S8x128_S8x3968_S8x4096_d1
    (sh 64 _ slices_S8x4096_o0_0_S8x4032 concatenates_S8x64_S8x4032_S8x4096_d1
    (sh 32 _ slices_S8x4096_o0_0_S8x4064 concatenates_S8x32_S8x4064_S8x4096_d1
    (sh 16 _ slices_S8x4096_o0_0_S8x4080 concatenates_S8x16_S8x4080_S8x4096_d1
    (sh 8 _ slices_S8x4096_o0_0_S8x4088 concatenates_S8x8_S8x4088_S8x4096_d1
    (sh 4 _ slices_S8x4096_o0_0_S8x4092 concatenates_S8x4_S8x4092_S8x4096_d1
    (sh 2 _ slices_S8x4096_o0_0_S8x4094 concatenates_S8x2_S8x4094_S8x4096_d1
    (sh 1 _ slices_S8x4096_o0_0_S8x4095 concatenates_S8x1_S8x4095_S8x4096_d1
      (sitofp .f32 (extui 32 v natLt_1_32))))))))))) := rfl
  rw [hd]
  refine sh_apply 512 _ _ _ _ r e (sh_apply 256 _ _ _ _ r e (sh_apply 128 _ _ _ _ r e (sh_apply 64 _ _ _ _ r e
    (sh_apply 32 _ _ _ _ r e (sh_apply 16 _ _ _ _ r e (sh_apply 8 _ _ _ _ r e (sh_apply 4 _ _ _ _ r e
    (sh_apply 2 _ _ _ _ r e (sh_apply 1 _ _ _ _ r e ?_))))))))) q
  intro q
  pointwise
  rw [h q, ind_val]
  unfold wcnt
  by_cases he : e q
  · rw [if_pos he, show (univ.filter fun p : Fin 4096 => p ≤ q ∧ q.val < p.val + 1 ∧ e p) = {q} from ?_]
    · simp
    · ext p
      simp only [mem_filter, mem_univ, true_and, mem_singleton, Fin.le_def]
      constructor
      · rintro ⟨a, b, -⟩; exact Fin.ext (by omega)
      · rintro rfl; exact ⟨le_rfl, by omega, he⟩
  · rw [if_neg he, show (univ.filter fun p : Fin 4096 => p ≤ q ∧ q.val < p.val + 1 ∧ e p) = ∅ from ?_]
    · simp
    · refine filter_eq_empty_iff.mpr fun p _ hp => he ?_
      have : p = q := Fin.ext (by have := Fin.le_def.mp hp.1; omega)
      exact this ▸ hp.2.2

/-- The last step from the running count: the selection and the quotient. -/
def grpTail (s : FVec Ideal S8x4096 .f32) (gt eq : IVec S8x4096 1) (need : FVec Ideal S8x1 .f32) (cs : FVec Ideal S8x4096 .f32) :
    FVec Ideal S1x8x4096 .f32 :=
  let e : FVec Ideal S8x4096 .f32 := select (ori gt (andi eq (cmpf .ole cs (broadcastTo S8x4096 need broadcasts_S8x1_S8x4096))))
    (exp (mulf (broadcast S8x4096 (Scalar.ofBits .f32 0x41200000#32)) s))
    (broadcast S8x4096 (Scalar.ofBits .f32 0x00000000#32))
  shapeCast S1x8x4096 (divf e (broadcastTo S8x4096 (shapeCast S8x1
    (multiReduction .add [1] S8 e 0x00000000#32 reduces_S8x4096_S8 (.inl rfl) rfl) shapeCasts_S8_S8x1)
      broadcasts_S8x1_S8x4096)) shapeCasts_S8x4096_S1x8x4096

theorem exp_pos {x : EReal} (h : x ≠ ⊥) : 0 < Ideal.exp x := by
  induction x with
  | bot => exact absurd rfl h
  | top => exact EReal.coe_lt_top 0
  | coe x => exact EReal.coe_lt_coe_iff.mpr (Real.exp_pos x)

theorem exp_nonneg (x : EReal) : 0 ≤ Ideal.exp x := by
  by_cases h : x = ⊥
  · subst h; exact le_rfl
  · exact (exp_pos h).le

/-- The group function ends with the last two doublings, the selection and the quotient. -/
theorem grp_eq (s : FVec Ideal S8x4096 .f32) : grp (F := Ideal) s =
    grpTail s (k1_pay65 s (thrOf (F := Ideal) s)) (k1_pay66 s (thrOf (F := Ideal) s)) (k1_pay68 (k1_pay67 s (thrOf (F := Ideal) s)))
      (sh 2048 _ slices_S8x4096_o0_0_S8x2048 concatenates_S8x2048_S8x2048_S8x4096_d1
        (sh 1024 _ slices_S8x4096_o0_0_S8x3072 concatenates_S8x1024_S8x3072_S8x4096_d1 (k1_pay69 (k1_pay66 s (thrOf (F := Ideal) s))))) := rfl

/-- Each row of the group function is the dense row of its 32 greatest values. -/
theorem grp_apply (s : FVec Ideal S8x4096 .f32) (r : Fin 8) (hs : ∀ q, ((-3 : ℝ) : EReal) < s (ix2 r q)) (q : Fin 4096) :
    grp (F := Ideal) s (ix3 0 r q) = rowOut (fun q => s (ix2 r q)) 32 q := by
  set R : Fin 4096 → EReal := fun q => s (ix2 r q) with hR
  obtain ⟨h1, h2⟩ := thr_spec R (by norm_num) hs
  rw [← thrOf_apply s r] at h1 h2
  set θ := thrOf (F := Ideal) s (ix2 r 0) with hθ
  have hgt : ∀ q, k1_pay65 (F := Ideal) s (thrOf (F := Ideal) s) (ix2 r q) = BitVec.ofBool (decide (θ < R q)) := by
    intro q; pointwise [k1_pay65]; rfl
  have heq : ∀ q, k1_pay66 (F := Ideal) s (thrOf (F := Ideal) s) (ix2 r q) = BitVec.ofBool (decide (R q = θ)) := by
    intro q; pointwise [k1_pay66]; rfl
  have hneed : k1_pay68 (F := Ideal) (k1_pay67 s (thrOf (F := Ideal) s)) (ix2 r 0) =
      ((32 : ℝ) : EReal) - (((univ.filter fun p => θ < R p).card : ℝ) : EReal) := by
    unfold k1_pay68 k1_pay67
    pointwise
    simp only [hgt, ind_val]
    rw [Consts.w_32, sum_ind]
  have hcs : ∀ q, (sh 2048 _ slices_S8x4096_o0_0_S8x2048 concatenates_S8x2048_S8x2048_S8x4096_d1
        (sh 1024 _ slices_S8x4096_o0_0_S8x3072 concatenates_S8x1024_S8x3072_S8x4096_d1 (k1_pay69 (F := Ideal) (k1_pay66 s (thrOf (F := Ideal) s)))))
        (ix2 r q) = (((univ.filter fun p => p ≤ q ∧ R p = θ).card : ℝ) : EReal) := by
    intro q
    rw [sh_apply 2048 _ _ _ _ r (fun q => R q = θ) (sh_apply 1024 _ _ _ _ r (fun q => R q = θ) (pay69_apply _ r _
      fun q => (heq q).trans (by congr)))]
    unfold wcnt
    refine congrArg (fun n : ℕ => ((n : ℝ) : EReal)) (congrArg card ?_)
    ext p
    simp only [mem_filter, mem_univ, true_and]
    constructor
    · rintro ⟨a, -, c⟩; exact ⟨a, c⟩
    · rintro ⟨a, c⟩; exact ⟨a, by have := q.isLt; omega, c⟩
  have hsel : ∀ (q : Fin 4096) (a : EReal), (Scalar.select (IntOp.ori (k1_pay65 (F := Ideal) s (thrOf (F := Ideal) s) (ix2 r q))
      (IntOp.andi (k1_pay66 (F := Ideal) s (thrOf (F := Ideal) s) (ix2 r q)) (BitVec.ofBool (decide
        ((((univ.filter fun p => p ≤ q ∧ R p = θ).card : ℝ) : EReal) ≤ k1_pay68 (F := Ideal) (k1_pay67 s (thrOf (F := Ideal) s)) (ix2 r 0)))))) a 0) =
      if rank R q < 32 then a else 0 := by
    intro q a
    rw [hgt, heq, sel_or]
    refine if_congr ?_ rfl rfl
    rw [← sel_iff R θ h1 h2 q, hneed, ← EReal.coe_sub, EReal.coe_le_coe_iff, le_sub_iff_add_le]
    norm_cast
  have hpos : (∑ p, if rank R p < 32 then Ideal.exp (((10 : ℝ) : EReal) * R p) else 0) ≠ 0 := by
    have h0 : rank R (place R 0) < 32 := by rw [rank_place]; norm_num
    have hle := single_le_sum (f := fun p => if rank R p < 32 then Ideal.exp (((10 : ℝ) : EReal) * R p) else 0)
      (fun p _ => by split_ifs; exacts [exp_nonneg _, le_rfl]) (mem_univ (place R 0))
    refine (lt_of_lt_of_le ?_ hle).ne'
    rw [if_pos h0]
    refine exp_pos ?_
    have h3 := hs (place R 0)
    change ((-3 : ℝ) : EReal) < R (place R 0) at h3
    generalize R (place R 0) = y at h3
    induction y with
    | bot => exact absurd h3 (by simp)
    | top => rw [EReal.coe_mul_top_of_pos (by norm_num)]; simp
    | coe y => rw [← EReal.coe_mul]; exact EReal.coe_ne_bot _
  rw [grp_eq]
  pointwise [grpTail]
  simp only [hcs, hsel, Consts.w_10]
  unfold rowOut
  by_cases hq : rank R q < 32
  · rw [if_pos hq, if_pos hq]
  · rw [if_neg hq, if_neg hq]
    unfold Ideal.div
    rw [if_neg hpos, zero_mul]

end Cert.KernelIdeal.Gen
-- ==== Proof.AffinityArray.lean ====
module

public import proofs.«01_k».proof.Proof.Group
public import proofs.«01_k».proof.Proof.Masked
public import proofs.«01_k».proof.Proof.Embed

@[expose] public section

set_option maxRecDepth 16384

/-! The affinity kernel's result array over the extended reals: every row of the masked similarities as the softmax over
its 32 greatest values. -/

noncomputable section

namespace Cert.KernelIdeal.Gen
open Idealize.ShloMosaic Idealize.ShloMosaic.TcCoe Idealize.ShloMosaic.Tactic Idealize.ShloMosaic.Pointwise Finset
open Idealize.ShloMosaic.Pipeline (Dat)

/-- The blocks of the three windows at a grid point. -/
theorem index1 : ∀ t : Fin grid1.N, (win1_0.index t 0 = (grid1.coords t 0).val ∧ win1_0.index t 1 = (grid1.coords t 1).val ∧ win1_0.index t 2 = 0)
    ∧ (win1_1.index t 0 = (grid1.coords t 0).val ∧ win1_1.index t 1 = 0 ∧ win1_1.index t 2 = 0)
    ∧ (win1_2.index t 0 = (grid1.coords t 0).val ∧ win1_2.index t 1 = (grid1.coords t 1).val ∧ win1_2.index t 2 = 0) := by
  decide +kernel

/-- Every pair of coordinates is a grid point's. -/
theorem point1 : ∀ (a : Fin 2) (b : Fin 16), ∃ t : Fin grid1.N, (grid1.coords t 0).val = a.val ∧ (grid1.coords t 1).val = b.val := by
  decide +kernel

/-- The affinities of an embedding as an array. -/
def affArr (E : FVec Ideal S2x4096x128 .f32) : FVec Ideal S2x4096x4096 .f32 := fun j =>
  TopRow.rowOut (Masked.masked (fun p d => E (ix3 (j 0) p d)) (j 1)) 32 (j 2)

variable (V : (c : Dev nD) → (b : Ref sig .tc) → Buf (Elt Ideal) ((c : Thread nD τ).loc b))

theorem iblk1_0_apply (c : Dev nD) (t : Fin cfg1.N) (r : Fin 256) (d : Fin 128) (p : Fin 4096)
    (hp : p.val = 256 * (grid1.coords t 1).val + r.val) :
    iblk1 V c 0 t (ix3 0 r d) = V c main_v196 (ix3 (grid1.coords t 0) p d) := by
  refine congrArg (V c main_v196) (funext fun a => Fin.ext ?_)
  refine (Pipeline.Window.rect_emb_val win1_0 t (ix3 0 r d) a).trans ?_
  obtain ⟨h0, h1, h2⟩ := (index1 t).1
  match a with
  | ⟨0, _⟩ => exact (congrArg (· * 1 + 0) h0).trans (by show _ = (grid1.coords t 0).val; omega)
  | ⟨1, _⟩ => exact (congrArg (· * 256 + r.val) h1).trans (by show _ = p.val; omega)
  | ⟨2, _⟩ => exact (congrArg (· * 128 + d.val) h2).trans (by show _ = d.val; omega)

theorem iblk1_1_apply (c : Dev nD) (t : Fin cfg1.N) (q : Fin 4096) (d : Fin 128) :
    iblk1 V c 1 t (ix3 0 q d) = V c main_v196 (ix3 (grid1.coords t 0) q d) := by
  refine congrArg (V c main_v196) (funext fun a => Fin.ext ?_)
  refine (Pipeline.Window.rect_emb_val win1_1 t (ix3 0 q d) a).trans ?_
  obtain ⟨h0, h1, h2⟩ := (index1 t).2.1
  match a with
  | ⟨0, _⟩ => exact (congrArg (· * 1 + 0) h0).trans (by show _ = (grid1.coords t 0).val; omega)
  | ⟨1, _⟩ => exact (congrArg (· * 4096 + q.val) h1).trans (by show _ = q.val; omega)
  | ⟨2, _⟩ => exact (congrArg (· * 128 + d.val) h2).trans (by show _ = d.val; omega)

/-- The affinities of the rows `p` as a block. -/
def outArr (e : Fin 4096 → Fin 128 → EReal) (p : Fin 256 → Fin 4096) : Vec Ideal S1x256x4096 .f32 := fun j =>
  TopRow.rowOut (Masked.masked e (p (j 1))) 32 (j 2)

theorem outArr_emb (e : Fin 4096 → Fin 128 → EReal) (p : Fin 256 → Fin 4096) (g : Fin 32) (r : Fin 8) (q : Fin 4096) :
    outArr e p ((Rect.unit (s := S1x256x4096) ![0, 8 * g.val, 0] ![1, 8, 4096] (inbOut g)).emb (ix3 0 r q)) =
      TopRow.rowOut (Masked.masked e (p ⟨8 * g.val + r.val, by omega⟩)) 32 q := by
  have h1 : (Rect.unit (s := S1x256x4096) ![0, 8 * g.val, 0] ![1, 8, 4096] (inbOut g)).emb (ix3 0 r q) =
      (ix3 0 ⟨8 * g.val + r.val, by omega⟩ q : S1x256x4096.Idx) := by
    refine funext fun a => Fin.ext ?_
    match a with
    | ⟨0, _⟩ => rfl
    | ⟨1, _⟩ => show 8 * g.val + 1 * r.val = 8 * g.val + r.val; omega
    | ⟨2, _⟩ => show 0 + 1 * q.val = q.val; omega
  rw [h1]
  rfl

theorem rows8_apply (A : Vec Ideal S256x4096 .f32) (g : Fin 32) (r : Fin 8) (q : Fin 4096) :
    rows8 A g (ix2 r q) = A (ix2 ⟨8 * g.val + r.val, by omega⟩ q) := by
  refine congrArg A (Shape.idx_ext₂ ?_ ?_)
  · show 8 * g.val + 1 * r.val = 8 * g.val + r.val; omega
  · show 0 + 1 * q.val = q.val; omega

/-- The affinity body's result block at grid point `i`, from blocks holding the rows `p` and all rows of `e`. -/
theorem outBlock (e : Fin 4096 → Fin 128 → EReal) (he : ∀ p q, ((-3 : ℝ) : EReal) < Masked.masked e p q)
    (c : Dev nD) (i : grid1.Coords) (arg2 : Memref sig .tc .vmem S1x256x128 .f32) (harg2 : arg2.IsWhole)
    (arg3 : Memref sig .tc .vmem S1x4096x128 .f32) (harg3 : arg3.IsWhole)
    (arg4 : Memref sig .tc .vmem S1x256x4096 .f32) (harg4 : arg4.IsWhole)
    (arg5 : Memref sig .tc .vmem S256x4096 .f32) (harg5 : arg5.IsWhole)
    (x0 : FVec Ideal S1x256x128 .f32) (x1 : FVec Ideal S1x4096x128 .f32)
    (p : Fin 256 → Fin 4096) (hp : ∀ r, (p r).val = 256 * (i 1).val + r.val)
    (h0 : ∀ r d, x0 (ix3 0 r d) = e (p r) d) (h1 : ∀ q d, x1 (ix3 0 q d) = e q d) :
    out1_A_2 (F := Ideal) c i arg2 harg2 arg3 harg3 arg4 harg4 arg5 harg5 x0 x1 = outArr e p := by
  refine out1_eq (F := Ideal) c i arg2 harg2 arg3 harg3 arg4 harg4 arg5 harg5 x0 x1 (outArr e p) ?_
  intro g y
  obtain ⟨a, r, q, rfl⟩ : ∃ (a : Fin 1) (r : Fin 8) (q : Fin 4096), y = ix3 a r q := ⟨y 0, y 1, y 2, by
    funext b; match b with | ⟨0, _⟩ => rfl | ⟨1, _⟩ => rfl | ⟨2, _⟩ => rfl⟩
  obtain rfl : a = 0 := Subsingleton.elim _ _
  have hrow : (fun q => rows8 (F := Ideal) (scratch i x0 x1) g (ix2 r q)) = Masked.masked e (p ⟨8 * g.val + r.val, by omega⟩) := by
    funext q
    rw [rows8_apply]
    exact scratch_apply i x0 x1 e p hp h0 h1 ⟨8 * g.val + r.val, by omega⟩ q
  rw [outArr_emb, ← hrow]
  exact grp_apply _ r (fun q => by rw [congrFun hrow q]; exact he _ _) q

/-- What grid point `t` writes back is its block of the affinities. -/
theorem flushed1 (c : Dev nD) (hE : ∀ b p q, ((-3 : ℝ) : EReal) < Masked.masked (fun p d => V c main_v196 (ix3 b p d)) p q)
    (t : Fin cfg1.N) :
    (dat1 V c).flushed 2 t = (win1_2.blk t).view.read (Elt Ideal) (affArr (V c main_v196)) := by
  show (cfg1.win 2).cut (grid1.coords t) ((dat1 V c).after 2 t) = _
  have hb : (grid1.coords t 1).val < 16 := (grid1.coords t 1).isLt
  rw [after1_2]
  unfold outsAt1
  rw [outBlock (fun p d => V c main_v196 (ix3 (grid1.coords t 0) p d)) (hE _) c (grid1.coords t) _ _ _ _ _ _ _ _ _ _
    (fun r => ⟨256 * (grid1.coords t 1).val + r.val, by omega⟩) (fun r => rfl)
    (fun r d => iblk1_0_apply V c t r d _ rfl) (fun q d => iblk1_1_apply V c t q d)]
  funext y
  obtain ⟨a, r, q, rfl⟩ : ∃ (a : Fin 1) (r : Fin 256) (q : Fin 4096), y = ix3 a r q := ⟨y 0, y 1, y 2, by
    funext b; match b with | ⟨0, _⟩ => rfl | ⟨1, _⟩ => rfl | ⟨2, _⟩ => rfl⟩
  obtain rfl : a = 0 := Subsingleton.elim _ _
  obtain ⟨h0, h1, h2⟩ := (index1 t).2.2
  have hj : (win1_2.rect t).emb (ix3 0 r q) = (ix3 (grid1.coords t 0) ⟨256 * (grid1.coords t 1).val + r.val, by omega⟩ q : S2x4096x4096.Idx) := by
    refine funext fun a => Fin.ext ?_
    refine (Pipeline.Window.rect_emb_val win1_2 t (ix3 0 r q) a).trans ?_
    match a with
    | ⟨0, _⟩ => exact (congrArg (· * 1 + 0) h0).trans (by show _ = (grid1.coords t 0).val; omega)
    | ⟨1, _⟩ => exact (congrArg (· * 256 + r.val) h1).trans (by show _ = 256 * (grid1.coords t 1).val + r.val; omega)
    | ⟨2, _⟩ => exact (congrArg (· * 4096 + q.val) h2).trans (by show _ = q.val; omega)
  exact (congrArg (affArr (V c main_v196)) hj).symm

/-- The blocks fill the array. -/
theorem cover1 (i : S2x4096x4096.Idx) : ∃ t : Fin cfg1.N, (cfg1.win 2).flush t = true ∧ i ∈ ((cfg1.win 2).blk t).view.set := by
  have hi : (i 1).val < 4096 := (i 1).isLt
  obtain ⟨t, ha, hb⟩ := point1 (i 0) ⟨(i 1).val / 256, by omega⟩
  refine ⟨t, flush1_2 t, ?_⟩
  show i ∈ ((View.whole main_v197).slice (win1_2.rect t)).set
  rw [View.set_slice_whole, Rect.mem_set_unit]
  obtain ⟨h0, h1, h2⟩ := (index1 t).2.2
  have hd : (i 2).val < 4096 := (i 2).isLt
  intro a
  match a with
  | ⟨0, _⟩ => show win1_2.index t 0 * 1 ≤ (i 0).val ∧ (i 0).val < win1_2.index t 0 * 1 + 1; omega
  | ⟨1, _⟩ => show win1_2.index t 1 * 256 ≤ (i 1).val ∧ (i 1).val < win1_2.index t 1 * 256 + 256
              dsimp only at hb; omega
  | ⟨2, _⟩ => show win1_2.index t 2 * 4096 ≤ (i 2).val ∧ (i 2).val < win1_2.index t 2 * 4096 + 4096; omega

/-- The affinity kernel's result array. -/
theorem final1 (c : Dev nD) (hE : ∀ b p q, ((-3 : ℝ) : EReal) < Masked.masked (fun p d => V c main_v196 (ix3 b p d)) p q) :
    (dat1 V c).arrAt 2 cfg1.N = affArr (V c main_v196) :=
  (dat1 V c).arrAt_eq_of_cover 2 (affArr (V c main_v196)) (fun t _ => flushed1 V c hE t) cover1

end Cert.KernelIdeal.Gen
-- ==== Proof.RefTail.lean ====
module

public import proofs.«01_k».proof.Proof.RefEmbed
public import proofs.«01_k».proof.Proof.Scatter
public import proofs.«01_k».proof.Proof.Rank
public import proofs.«01_k».proof.Proof.Bounds
public import proofs.«01_k».proof.Proof.AffinityArray
public import Idealize.ShloMosaic.PureOps.Ideal.Laws
public import Idealize.ShloMosaic.PureOps.Reduce

@[expose] public section

set_option maxRecDepth 16384

/-! The reference's affinity: the largest 32 of every row, their softmax, and the dense array they are written into. -/

noncomputable section

namespace Cert.Spec
open Idealize.ShloMosaic Finset

/-- A softmax over reals does not change when one real is taken from every entry. -/
theorem softmax_shift {K : ℕ} (hK : 0 < K) (z : Fin K → ℝ) (M : ℝ) (j : Fin K) :
    Ideal.div (Ideal.exp ((z j : EReal) - (M : EReal))) (∑ k, Ideal.exp ((z k : EReal) - (M : EReal))) =
      Ideal.div (Ideal.exp (z j : EReal)) (∑ k, Ideal.exp (z k : EReal)) := by
  simp only [← EReal.coe_sub, Ideal.exp_coe]
  rw [sum_coe, sum_coe]
  have hne : (univ : Finset (Fin K)).Nonempty := ⟨⟨0, hK⟩, mem_univ _⟩
  have h1 : (∑ k, Real.exp (z k - M)) ≠ 0 := (sum_pos (fun k _ => Real.exp_pos _) hne).ne'
  have h2 : (∑ k, Real.exp (z k)) ≠ 0 := (sum_pos (fun k _ => Real.exp_pos _) hne).ne'
  rw [Ideal.div_coe h1, Ideal.div_coe h2, ← EReal.coe_mul, ← EReal.coe_mul]
  congr 1
  have e : ∀ k, Real.exp (z k - M) = Real.exp (z k) * Real.exp (-M) := fun k => by rw [← Real.exp_add, sub_eq_add_neg]
  simp only [e, ← sum_mul] at h1 ⊢
  field_simp

end Cert.Spec

namespace Cert.ReferenceIdeal
open Idealize.ShloMosaic Idealize.ShloMosaic.Pointwise Finset

variable [Facts₀]

/-- Three arrays of index words joined on the last axis, read at an index. -/
theorem triple_apply (x y z : IVec S2x4096x32x1 32)
    (h : Shape.Concatenates [S2x4096x32x1, S2x4096x32x1, S2x4096x32x1] S2x4096x32x3 3) (b : Fin 2) (p : Fin 4096) (j : Fin 32) (a : Fin 3) :
    concatenate S2x4096x32x3 3 [⟨S2x4096x32x1, x⟩, ⟨S2x4096x32x1, y⟩, ⟨S2x4096x32x1, z⟩] h (at4 b p j a) =
      (![x, y, z] a) (ix4 b p j 0) := by
  match a with
  | ⟨0, _⟩ => pointwise [at4]
  | ⟨1, _⟩ => pointwise [at4]
  | ⟨2, _⟩ => pointwise [at4]

/-- The third of the three arrays. -/
theorem triple_last (x y z : IVec S2x4096x32x1 32)
    (h : Shape.Concatenates [S2x4096x32x1, S2x4096x32x1, S2x4096x32x1] S2x4096x32x3 3) (b : Fin 2) (p : Fin 4096) (j : Fin 32) :
    concatenate S2x4096x32x3 3 [⟨S2x4096x32x1, x⟩, ⟨S2x4096x32x1, y⟩, ⟨S2x4096x32x1, z⟩] h (at4 b p j 2) = z (ix4 b p j 0) :=
  triple_apply x y z h b p j 2

theorem sorted_eq (y : FVec Ideal S2x4096x4096 .f32) (b : Fin 2) (p : Fin 4096) (j : Fin 4096) :
    sortedFrom (fun k k' => FloatOps.cmpfTotal (F := Ideal) (φ := .f32) .gt (y (ix3 b p k)) (y (ix3 b p k')) == 1#1) j =
      TopRow.place (fun q => y (ix3 b p q)) j := by
  unfold TopRow.place
  refine congrArg (fun f => sortedFrom f j) (funext fun k => funext fun k' => ?_)
  show (BitVec.ofBool (decide (y (ix3 b p k) > y (ix3 b p k'))) == 1#1) = _
  by_cases hh : y (ix3 b p k') < y (ix3 b p k)
  · rw [decide_eq_true hh]; rfl
  · rw [decide_eq_false hh]; rfl

theorem along_eq (b : Fin 2) (p j k : Fin 4096) : (ix3 b p j : S2x4096x4096.Idx).along (2 : Fin 3) k = ix3 b p k := by
  funext a
  match a with
  | ⟨0, _⟩ => rfl
  | ⟨1, _⟩ => rfl
  | ⟨2, _⟩ => rfl

/-- The permutation that sorts row `p` of map `b`. -/
theorem perm_eq (y : FVec Ideal S2x4096x4096 .f32) (b : Fin 2) (p j : Fin 4096) :
    sortedFrom (fun k k' => FloatOps.cmpfTotal (F := Ideal) (φ := .f32) .gt (y ((ix3 b p j : S2x4096x4096.Idx).along (2 : Fin 3) k))
      (y ((ix3 b p j : S2x4096x4096.Idx).along (2 : Fin 3) k')) == 1#1) j = TopRow.place (fun q => y (ix3 b p q)) j := by
  rw [← sorted_eq]
  refine congrArg (fun f => sortedFrom f j) (funext fun k => funext fun k' => ?_)
  exact congrArg₂ (fun u v => FloatOps.cmpfTotal (F := Ideal) (φ := .f32) .gt (y u) (y v) == 1#1) (along_eq _ _ _ _) (along_eq _ _ _ _)

/-- Where the slice of the first 32 reads. -/
theorem slice_idx (h : S2x4096x4096.Slices (fun _ => 0) S2x4096x32) (b : Fin 2) (p : Fin 4096) (j : Fin 32) :
    (fun a => ⟨0 + ((ix3 b p j : S2x4096x32.Idx) (a.cast h.1.symm)).val, Nat.lt_of_lt_of_le (Nat.add_lt_add_left (Fin.isLt _) _) (h.2 a)⟩ :
      S2x4096x4096.Idx) = ix3 b p (j.castLE (by decide)) := by
  funext a
  match a with
  | ⟨0, _⟩ => exact Fin.ext (Nat.zero_add _)
  | ⟨1, _⟩ => exact Fin.ext (Nat.zero_add _)
  | ⟨2, _⟩ => exact Fin.ext (Nat.zero_add _)

/-- The values of the top 32: the row's values at its first 32 places. -/
theorem topK_val (y : FVec Ideal S2x4096x4096 .f32) (h : S2x4096x4096.Slices (fun _ => 0) S2x4096x32) (b : Fin 2) (p : Fin 4096) (j : Fin 32) :
    (Host.topK S2x4096x32 2 (FloatOps.cmpfTotal (F := Ideal) (φ := .f32) .gt) y h).1 (ix3 b p j) =
      y (ix3 b p (TopRow.place (fun q => y (ix3 b p q)) (j.castLE (by decide)))) := by
  rw [Cert.Scatter.topK_fst _ 2 (by decide), slice_idx h]
  refine (congrArg y ((along_eq _ _ _ _).trans ?_))
  exact congrArg (ix3 b p) (perm_eq y b p _)

/-- The places of the top 32, as words. -/
theorem topK_idx (y : FVec Ideal S2x4096x4096 .f32) (h : S2x4096x4096.Slices (fun _ => 0) S2x4096x32) (b : Fin 2) (p : Fin 4096) (j : Fin 32) :
    (Host.topK S2x4096x32 2 (FloatOps.cmpfTotal (F := Ideal) (φ := .f32) .gt) y h).2 (ix3 b p j) =
      BitVec.ofNat 32 (TopRow.place (fun q => y (ix3 b p q)) (j.castLE (by decide))).val := by
  rw [Cert.Scatter.topK_snd _ 2 (by decide), slice_idx h]
  exact congrArg (fun z : Fin 4096 => BitVec.ofNat 32 z.val) (perm_eq y b p _)

/-- The largest of 32 reals is a real. -/
theorem max_real (z : FVec Ideal S2x4096x32 .f32) (init : FVec Ideal S_ .f32) (h : S2x4096x32.ReducesTo [2] S2x4096) (hu : 0 < S_.numel)
    (hi : init (Shape.Idx.first hu) = ⊥) (b : Fin 2) (p : Fin 4096) (hz : ∀ j : Fin 32, ∃ r : ℝ, z (ix3 b p j) = (r : EReal)) :
    ∃ r : ℝ, Host.reduce FloatOps.maximumf z init h hu (ix2 b p) = (r : EReal) := by
  have h' : S2x4096x32.Reduces [2] S2x4096 := by decide
  show ∃ r : ℝ, Host.reduce (max : EReal → EReal → EReal) z init h hu (ix2 b p) = (r : EReal)
  rw [Host.reduce_eq_fold_single max z init h h' hu, hi]
  obtain ⟨j, hj⟩ := TopRow.exists_rmax (N := 32) (fun j => z (ix3 b p j)) (by decide)
  obtain ⟨r, hr⟩ := hz j
  refine ⟨r, ?_⟩
  rw [← hr, hj]
  unfold TopRow.rmax
  refine congrArg (fun f => (univ : Finset (Fin 32)).fold max ⊥ f) (funext fun k => congrArg z ?_)
  funext a
  match a with
  | ⟨0, _⟩ => rfl
  | ⟨1, _⟩ => rfl
  | ⟨2, _⟩ => rfl

end Cert.ReferenceIdeal

namespace Cert.ReferenceIdeal.Read
open Idealize.ShloMosaic Finset

variable (x0 : (⟨S2x96x64x64, .f32⟩ : BufTy).Contents (Elt Ideal)) (x1 : (⟨S16x2x3, .f32⟩ : BufTy).Contents (Elt Ideal))
  (x2 : (⟨S64x96, .f32⟩ : BufTy).Contents (Elt Ideal)) (x3 : (⟨S64, .f32⟩ : BufTy).Contents (Elt Ideal))
  (x4 : (⟨S128x64, .f32⟩ : BufTy).Contents (Elt Ideal)) (x5 x6 : (⟨S128, .f32⟩ : BufTy).Contents (Elt Ideal))
  (x7 : (⟨S4096x1024, .f32⟩ : BufTy).Contents (Elt Ideal)) (x8 : (⟨S4096x2, .f32⟩ : BufTy).Contents (Elt Ideal))

/-- A row of masked similarities, and the places of its 32 largest. -/
abbrev row (b : Fin 2) (p : Fin 4096) : Fin 4096 → EReal := fun q => val_main_v266 (F := Ideal) x0 x1 x2 x3 x4 x5 x6 x7 x8 (ix3 b p q)

abbrev pl (b : Fin 2) (p : Fin 4096) (j : Fin 32) : Fin 4096 := TopRow.place (row x0 x1 x2 x3 x4 x5 x6 x7 x8 b p) (j.castLE (by decide))

theorem scaled_apply (b : Fin 2) (p : Fin 4096) (j : Fin 32) : val_main_v268 (F := Ideal) x0 x1 x2 x3 x4 x5 x6 x7 x8 (ix3 b p j) =
    ((10 : ℝ) : EReal) * row x0 x1 x2 x3 x4 x5 x6 x7 x8 b p (pl x0 x1 x2 x3 x4 x5 x6 x7 x8 b p j) := by
  rw [val_main_v268_apply, val_main_v267_apply]
  unfold val_main_values
  rw [topK_val, ← Consts.w_10]
  rfl

/-- The softmax of ten times the 32 largest of a row of reals. -/
theorem softmax_apply (b : Fin 2) (p : Fin 4096) (s : Fin 4096 → ℝ)
    (hs : ∀ q, val_main_v266 (F := Ideal) x0 x1 x2 x3 x4 x5 x6 x7 x8 (ix3 b p q) = (s q : EReal)) (j : Fin 32) :
    val_main_v279 (F := Ideal) x0 x1 x2 x3 x4 x5 x6 x7 x8 (ix3 b p j) =
      Ideal.div (Ideal.exp (((10 : ℝ) : EReal) * row x0 x1 x2 x3 x4 x5 x6 x7 x8 b p (pl x0 x1 x2 x3 x4 x5 x6 x7 x8 b p j)))
        (∑ k : Fin 32, Ideal.exp (((10 : ℝ) : EReal) * row x0 x1 x2 x3 x4 x5 x6 x7 x8 b p (pl x0 x1 x2 x3 x4 x5 x6 x7 x8 b p k))) := by
  have hz : ∀ k : Fin 32, val_main_v268 (F := Ideal) x0 x1 x2 x3 x4 x5 x6 x7 x8 (ix3 b p k) =
      ((10 * s (pl x0 x1 x2 x3 x4 x5 x6 x7 x8 b p k) : ℝ) : EReal) := fun k => by
    rw [scaled_apply, EReal.coe_mul]; exact congrArg _ (hs _)
  obtain ⟨M, hM⟩ : ∃ M : ℝ, val_main_v269 (F := Ideal) x0 x1 x2 x3 x4 x5 x6 x7 x8 (ix2 b p) = (M : EReal) := by
    unfold val_main_v269
    exact max_real _ _ _ _ Consts.w_neg_inf b p fun j => ⟨_, hz j⟩
  have hm : ∀ k : Fin 32, val_main_v273 (F := Ideal) x0 x1 x2 x3 x4 x5 x6 x7 x8 (ix3 b p k) = (M : EReal) := fun k => by
    rw [val_main_v273_apply, val_main_v272_apply, val_main_v271_apply, val_main_v270_apply]
    have : idx_main_v272 (idx_main_v273 (ix3 b p k)) = ix2 b p := by
      funext a; match a with | ⟨0, _⟩ => rfl | ⟨1, _⟩ => rfl
    rw [this, hM]
    show max (Ideal.ofBits .f32 0xFF800000#32) _ = _
    rw [Consts.w_neg_inf]
    exact max_eq_right bot_le
  have he : ∀ k : Fin 32, val_main_v275 (F := Ideal) x0 x1 x2 x3 x4 x5 x6 x7 x8 (ix3 b p k) =
      Ideal.exp (((10 * s (pl x0 x1 x2 x3 x4 x5 x6 x7 x8 b p k) : ℝ) : EReal) - (M : EReal)) := fun k => by
    rw [val_main_v275_apply, val_main_v274_apply, hz, hm]; rfl
  have hsum : val_main_v278 (F := Ideal) x0 x1 x2 x3 x4 x5 x6 x7 x8 (ix3 b p j) =
      ∑ k : Fin 32, Ideal.exp (((10 * s (pl x0 x1 x2 x3 x4 x5 x6 x7 x8 b p k) : ℝ) : EReal) - (M : EReal)) := by
    rw [val_main_v278_apply, val_main_v277_apply, val_main_v276_apply]
    have h0 : ∀ i, val_main_cst_72 (F := Ideal) i = 0 := fun _ => Ideal.ofBits_zero_f32
    rw [h0, zero_add]
    refine sum_congr rfl fun k _ => ?_
    rw [← he]
    refine congrArg _ ?_
    funext a; match a with | ⟨0, _⟩ => rfl | ⟨1, _⟩ => rfl | ⟨2, _⟩ => rfl
  rw [val_main_v279_apply, he, hsum]
  refine (Spec.softmax_shift (by decide) (fun k => 10 * s (pl x0 x1 x2 x3 x4 x5 x6 x7 x8 b p k)) M j).trans ?_
  simp only [← hz, scaled_apply]

/-- A word of a number below 4096 is not negative, so the wrap of negative indices leaves it; read signed, it is the number. -/
theorem wrap_toInt (w a : BitVec 32) (n : ℕ) (hn : n < 4096) (hw : w = BitVec.ofNat 32 n) :
    (Scalar.select (IntOp.cmpi .slt w 0#32) a w).toInt = (n : ℤ) := by
  subst hw
  rw [Routing.wrap_of_lt _ _ (by rw [BitVec.toNat_ofNat, Nat.mod_eq_of_lt (by omega)]; omega),
    StableHlo.Predicate.toInt_ofNat_small _ (by omega)]

/-- The index triples of the scatter. -/
theorem triple0 (b : Fin 2) (p : Fin 4096) (j : Fin 32) :
    (val_main_v305 (F := Ideal) x0 x1 x2 x3 x4 x5 x6 x7 x8 (at4 b p j 0)).toInt = b.val := by
  have e : val_main_v305 (F := Ideal) x0 x1 x2 x3 x4 x5 x6 x7 x8 (at4 b p j 0) = val_main_v302 (F := Ideal) (ix4 b p j 0) := by
    unfold val_main_v305; rw [triple_apply]; rfl
  rw [e, val_main_v302_apply, val_main_v300_apply, val_main_v289_apply, val_main_v286_apply, val_main_v285_apply]
  exact wrap_toInt _ _ _ (by omega) rfl

theorem triple1 (b : Fin 2) (p : Fin 4096) (j : Fin 32) :
    (val_main_v305 (F := Ideal) x0 x1 x2 x3 x4 x5 x6 x7 x8 (at4 b p j 1)).toInt = p.val := by
  have e : val_main_v305 (F := Ideal) x0 x1 x2 x3 x4 x5 x6 x7 x8 (at4 b p j 1) = val_main_v303 (F := Ideal) (ix4 b p j 0) := by
    unfold val_main_v305; rw [triple_apply]; rfl
  rw [e, val_main_v303_apply, val_main_v301_apply, val_main_v294_apply, val_main_v291_apply, val_main_v290_apply]
  exact wrap_toInt _ _ _ (by omega) rfl

theorem triple2 (b : Fin 2) (p : Fin 4096) (j : Fin 32) :
    (val_main_v305 (F := Ideal) x0 x1 x2 x3 x4 x5 x6 x7 x8 (at4 b p j 2)).toInt = (pl x0 x1 x2 x3 x4 x5 x6 x7 x8 b p j).val := by
  have e : val_main_v305 (F := Ideal) x0 x1 x2 x3 x4 x5 x6 x7 x8 (at4 b p j 2) =
      val_main_v304 (F := Ideal) x0 x1 x2 x3 x4 x5 x6 x7 x8 (ix4 b p j 0) := by
    unfold val_main_v305; exact triple_last _ _ _ _ b p j
  have ei : idx_main_v304 (ix4 b p j 0) = ix3 b p j := by
    funext a; match a with | ⟨0, _⟩ => rfl | ⟨1, _⟩ => rfl | ⟨2, _⟩ => rfl
  rw [e, val_main_v304_apply, ei, val_main_v299_apply, val_main_v296_apply, val_main_v295_apply]
  refine wrap_toInt _ _ _ (Fin.isLt _) ?_
  unfold val_main_indices
  rw [topK_idx]

/-- The affinity: row `p` of map `b` is the dense row of its masked similarities, when these are real. -/
theorem affinity_apply (b : Fin 2) (p : Fin 4096) (s : Fin 4096 → ℝ)
    (hs : ∀ q, val_main_v266 (F := Ideal) x0 x1 x2 x3 x4 x5 x6 x7 x8 (ix3 b p q) = (s q : EReal)) (q : Fin 4096) :
    val_main_v306 (F := Ideal) x0 x1 x2 x3 x4 x5 x6 x7 x8 (ix3 b p q) =
      TopRow.rowOut (row x0 x1 x2 x3 x4 x5 x6 x7 x8 b p) 32 q := by
  have hl : ∀ (b' : Fin 2) (p' : Fin 4096) (j : Fin 32),
      scatter_S2x4096x4096_S2x4096x32x3_S2x4096x32_n_012_012_3.resultIdx? (ix3 b' p' j)
        (val_main_v305 (F := Ideal) x0 x1 x2 x3 x4 x5 x6 x7 x8) = some (ix3 b p q) ↔
      b' = b ∧ p' = p ∧ pl x0 x1 x2 x3 x4 x5 x6 x7 x8 b' p' j = q := fun b' p' j => by
    rw [lands, triple0, triple1, triple2]
    simp only [Nat.cast_inj, Fin.ext_iff]
  have hk : ∀ k : S2x4096x32.Idx, ∃ (b' : Fin 2) (p' : Fin 4096) (j : Fin 32), k = ix3 b' p' j := fun k => ⟨k 0, k 1, k 2, by
    funext a; match a with | ⟨0, _⟩ => rfl | ⟨1, _⟩ => rfl | ⟨2, _⟩ => rfl⟩
  unfold val_main_v306 TopRow.rowOut
  by_cases hq : TopRow.rank (row x0 x1 x2 x3 x4 x5 x6 x7 x8 b p) q < 32
  · have hpl : pl x0 x1 x2 x3 x4 x5 x6 x7 x8 b p ⟨_, hq⟩ = q := TopRow.place_rank _ q
    rw [if_pos hq, Scatter.hit _ _ _ _ _ (ix3 b p ⟨_, hq⟩) ((hl _ _ _).2 ⟨rfl, rfl, hpl⟩), softmax_apply _ _ _ _ _ _ _ _ _ b p s hs, hpl,
      TopRow.sum_rank _ (by decide)]
    intro k hk'
    obtain ⟨b', p', j, rfl⟩ := hk k
    obtain ⟨rfl, rfl, hj⟩ := (hl b' p' j).1 hk'
    have hj' : TopRow.rank (row x0 x1 x2 x3 x4 x5 x6 x7 x8 b' p') q = j.val := by rw [← hj]; exact TopRow.rank_place _ _
    exact congrArg (ix3 b' p') (Fin.ext hj'.symm)
  · rw [if_neg hq, Scatter.miss]
    · rw [val_main_v284_apply]; exact Ideal.ofBits_zero_f32
    · intro k hk'
      obtain ⟨b', p', j, rfl⟩ := hk k
      obtain ⟨rfl, rfl, hj⟩ := (hl b' p' j).1 hk'
      refine hq ?_
      rw [← hj]
      exact (TopRow.rank_place _ _).trans_lt j.isLt

/-- The whole affinity, as a function of the embedding. -/
theorem affinity_eq (hx : ∀ p : Fin 4096, x8 (ix2 p 0) = (((p.val % 64 : ℕ) : ℝ) : EReal))
    (hy : ∀ p : Fin 4096, x8 (ix2 p 1) = (((p.val / 64 : ℕ) : ℝ) : EReal)) :
    val_main_v306 (F := Ideal) x0 x1 x2 x3 x4 x5 x6 x7 x8 =
      KernelIdeal.Gen.affArr (val_main_v262 (F := Ideal) x0 x1 x2 x3 x4 x5 x6 x7) := by
  funext i
  obtain ⟨b, p, q, rfl⟩ : ∃ (b : Fin 2) (p : Fin 4096) (q : Fin 4096), i = ix3 b p q := ⟨i 0, i 1, i 2, by
    funext a; match a with | ⟨0, _⟩ => rfl | ⟨1, _⟩ => rfl | ⟨2, _⟩ => rfl⟩
  have hm : ∀ q, val_main_v266 (F := Ideal) x0 x1 x2 x3 x4 x5 x6 x7 x8 (ix3 b p q) = _ :=
    masked_apply x0 x1 x2 x3 x4 x5 x6 x7 x8 hx hy b p
  obtain ⟨s, hs⟩ := Spec.masked_real (fun p d => val_main_v262 (F := Ideal) x0 x1 x2 x3 x4 x5 x6 x7 (ix3 b p d)) _
    (fun p => funext fun d => embed_apply x0 x1 x2 x3 x4 x5 x6 x7 b p d)
  rw [affinity_apply _ _ _ _ _ _ _ _ _ b p (s p) (fun q => (hm q).trans (hs p q).1)]
  unfold KernelIdeal.Gen.affArr
  refine congrArg (fun f => TopRow.rowOut f 32 q) (funext fun q => hm q)

/-- The whole embedding, as a function of the pooled descriptors and the mixing matrix, the latter with a leading axis of one. -/
theorem embed_eq (M : FVec Ideal KernelIdeal.S1x4096x1024 .f32) (hM : ∀ p k, M (ix3 0 p k) = x7 (ix2 p k)) :
    val_main_v262 (F := Ideal) x0 x1 x2 x3 x4 x5 x6 x7 =
      KernelIdeal.Gen.embArr M (val_main_v255 (F := Ideal) x0 x1 x2 x3 x4 x5 x6) := by
  funext i
  obtain ⟨b, p, d, rfl⟩ : ∃ (b : Fin 2) (p : Fin 4096) (d : Fin 128), i = ix3 b p d := ⟨i 0, i 1, i 2, by
    funext a; match a with | ⟨0, _⟩ => rfl | ⟨1, _⟩ => rfl | ⟨2, _⟩ => rfl⟩
  rw [embed_apply]
  unfold KernelIdeal.Gen.embArr
  simp only [← hM]
  rfl

end Cert.ReferenceIdeal.Read
-- ==== Proof.Values.lean ====
module

public import proofs.«01_k».proof.Proof.KernelRun
public import proofs.«01_k».proof.Proof.HostRead
public import proofs.«01_k».proof.Proof.RefStage
public import proofs.«01_k».proof.Proof.RefTail
public import proofs.«01_k».proof.Proof.Bounds
public import proofs.«01_k».proof.Proof.Embed
public import proofs.«01_k».proof.Proof.AffinityArray

@[expose] public section

set_option maxRecDepth 16384

/-! The kernel's two result arrays are the reference's two results, as functions of the nine arguments. -/

noncomputable section

namespace Cert.KernelIdeal.Gen
open Idealize.ShloMosaic Idealize.ShloMosaic.TcCoe Idealize.ShloMosaic.Pointwise Idealize.SL.Sem
open Cert.ReferenceIdeal.Read (val_main_v255 val_main_v262 val_main_v306)

variable (m : (ℓ : Loc nD τ sig) → Buf (Elt Ideal) ℓ) (ρ : Dev nD → PrngReg) (c : Dev nD)

/-- Argument `r` as launched on device `c`. -/
abbrev arg (r : Ref sig .tc) : Buf (Elt Ideal) ((c.tc : Thread nD τ).loc r) := m ((c.tc : Thread nD τ).loc r)

/-- The pooled descriptors that enter the first region are the reference's. -/
theorem pooled_value : W15 m ρ c (Proc.devRef .tc main_v194) =
    val_main_v255 (F := Ideal) (arg m c main_arg0) (arg m c main_arg1) (arg m c main_arg2) (arg m c main_arg3) (arg m c main_arg4)
      (arg m c main_arg5) (arg m c main_arg6) := by
  funext (i : S2x1024x128.Idx)
  have hi : i = ix3 (i 0) (i 1) (i 2) := by
    funext a; match a with | ⟨0, _⟩ => rfl | ⟨1, _⟩ => rfl | ⟨2, _⟩ => rfl
  rw [hi]
  exact (pooled_read (W0 m ρ c) (i 0) (i 1) (i 2)).trans
    (ReferenceIdeal.Read.pooled_apply (arg m c main_arg0) (arg m c main_arg1) (arg m c main_arg2) (arg m c main_arg3) (arg m c main_arg4)
      (arg m c main_arg5) (arg m c main_arg6) (i 0) (i 1) (i 2)).symm

/-- What the first region leaves, over what enters it. -/
theorem embed_entry : W16 m ρ c (Proc.devRef .tc main_v196) =
    embArr (W15 m ρ c (Proc.devRef .tc main_v195)) (W15 m ρ c (Proc.devRef .tc main_v194)) :=
  (W16_arr m ρ c 2).trans (final0 (V15 m ρ) c)

/-- What the first region leaves is the reference's embedding. -/
theorem embed_value : W16 m ρ c (Proc.devRef .tc main_v196) =
    val_main_v262 (F := Ideal) (arg m c main_arg0) (arg m c main_arg1) (arg m c main_arg2) (arg m c main_arg3) (arg m c main_arg4)
      (arg m c main_arg5) (arg m c main_arg6) (arg m c main_arg7) := by
  rw [embed_entry, pooled_value]
  exact (ReferenceIdeal.Read.embed_eq _ _ _ _ _ _ _ _ (W15 m ρ c (Proc.devRef .tc main_v195))
    fun p k => mixed_read (W0 m ρ c) p k).symm

/-- The second region leaves the embedding as it is. -/
theorem embed_kept : W17 m ρ c (Proc.devRef .tc main_v196) = W16 m ρ c (Proc.devRef .tc main_v196) :=
  W17_of m ρ c main_v196 (by decide)

/-- Every score of two embedded pixels lies above the value that marks a column already taken. -/
theorem masked_bound (b : Fin 2) (p q : Fin 4096) :
    ((-3 : ℝ) : EReal) < Masked.masked (fun p d => V16 m ρ c main_v196 (ix3 b p d)) p q := by
  refine Spec.masked_gt _ (Spec.mix (fun p k => W15 m ρ c (Proc.devRef .tc main_v195) (ix3 0 p k))
    (fun k d => W15 m ρ c (Proc.devRef .tc main_v194) (ix3 b k d))) (fun p => funext fun d => ?_) p q
  exact congrFun (embed_entry m ρ c) (ix3 b p d)

/-- What the second region leaves is the reference's sparse affinity. -/
theorem affinity_value
    (hx : ∀ p : Fin 4096, arg m c main_arg8 (ix2 p 0) = (((p.val % 64 : ℕ) : ℝ) : EReal))
    (hy : ∀ p : Fin 4096, arg m c main_arg8 (ix2 p 1) = (((p.val / 64 : ℕ) : ℝ) : EReal)) :
    W17 m ρ c (Proc.devRef .tc main_v197) =
    val_main_v306 (F := Ideal) (arg m c main_arg0) (arg m c main_arg1) (arg m c main_arg2) (arg m c main_arg3) (arg m c main_arg4)
      (arg m c main_arg5) (arg m c main_arg6) (arg m c main_arg7) (arg m c main_arg8) := by
  refine ((W17_arr m ρ c 2).trans (final1 (V16 m ρ) c (masked_bound m ρ c))).trans ?_
  refine (congrArg affArr (embed_value m ρ c)).trans ?_
  exact (ReferenceIdeal.Read.affinity_eq _ _ _ _ _ _ _ _ _ hx hy).symm

/-- The kernel's run over a pixel grid, its results named by the reference's stages. -/
theorem run_stages (hgrid : ∀ (c : Dev nD) (p : Fin 4096), arg m c main_arg8 (ix2 p 0) = (((p.val % 64 : ℕ) : ℝ) : EReal)
      ∧ arg m c main_arg8 (ix2 p 1) = (((p.val / 64 : ℕ) : ℝ) : EReal)) :
    θ_run defs (onTc (τ := τ) (main (F := Ideal))) ⟨m, fun _ => 0, ρ⟩ fun r => ∀ c : Dev nD,
      r.2.mem ((c.tc : Thread nD τ).loc main_v196) = val_main_v262 (F := Ideal) (arg m c main_arg0) (arg m c main_arg1) (arg m c main_arg2)
        (arg m c main_arg3) (arg m c main_arg4) (arg m c main_arg5) (arg m c main_arg6) (arg m c main_arg7)
      ∧ r.2.mem ((c.tc : Thread nD τ).loc main_v197) = val_main_v306 (F := Ideal) (arg m c main_arg0) (arg m c main_arg1) (arg m c main_arg2)
        (arg m c main_arg3) (arg m c main_arg4) (arg m c main_arg5) (arg m c main_arg6) (arg m c main_arg7) (arg m c main_arg8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans ((embed_kept m ρ c).trans (embed_value m ρ c)),
      (h c).2.1.trans (affinity_value m ρ c (fun p => (hgrid c p).1) (fun p => (hgrid c p).2)), (h c).2.2⟩) (run (F := Ideal) m ρ)

end Cert.KernelIdeal.Gen
-- ==== Proof.PixelGrid.lean ====
module

public import proofs.«01_k».proof.Pre_pixel_grid
public import Idealize.ShloMosaic.Lib.Pointwise
public import Idealize.ShloMosaic.Lib.ReduceAll

@[expose] public section

set_option maxRecDepth 16384

/-! The precondition, read: the ninth argument holds each pixel's column and row. -/

noncomputable section

namespace Cert.Pre_pixel_grid
open Idealize.ShloMosaic Idealize.ShloMosaic.Pointwise

/-- The side conditions of the precondition's operations. -/
theorem facts : Facts where
  bcast_S64_S1x64_1 := by decide
  bcast_S1x64_S64x64_0_1 := by decide
  shapeCasts_S64x64_S4096 := by decide
  bcast_S64_S64x1_0 := by decide
  bcast_S64x1_S64x64_0_1 := by decide
  slices_S4096x2_S4096x1_0_0 := by decide
  shapeCasts_S4096x1_S4096 := by decide
  reducesTo_S4096_S_d0 := by decide
  h_S_ := by decide
  slices_S4096x2_S4096x1_0_1 := by decide

/-- The float of a small number's word is the number. -/
theorem small_float (n : Fin 64) : FloatOps.sitofp (F := Ideal) .f32 (BitVec.ofNat 32 n.val) = (((n.val : ℕ) : ℝ) : EReal) := by
  have h : ∀ n : Fin 64, (BitVec.ofNat 32 n.val).toInt = (n.val : ℤ) := by decide
  show (((BitVec.ofNat 32 n.val).toInt : ℝ) : EReal) = _
  rw [h n]
  norm_cast

/-- Where a comparison's flag is 1 the two numbers are equal. -/
theorem eq_of_flag (x y : EReal) (h : BitVec.ofBool (decide (x = y)) = 1#1) : x = y := by
  by_contra hne
  rw [decide_eq_false hne] at h
  exact absurd h (by decide)

variable (x0 : FVec Ideal S2x96x64x64 .f32) (x1 : FVec Ideal S16x2x3 .f32) (x2 : FVec Ideal S64x96 .f32) (x3 : FVec Ideal S64 .f32)
  (x4 : FVec Ideal S128x64 .f32) (x5 x6 : FVec Ideal S128 .f32) (x7 : FVec Ideal S4096x1024 .f32) (x8 : FVec Ideal S4096x2 .f32)

/-- Where the precondition holds, the ninth argument's first column is the pixel's column and its second the pixel's row. -/
theorem grid [Facts] (i : S_.Idx) (h : fn (F := Ideal) x0 x1 x2 x3 x4 x5 x6 x7 x8 i = 1#1) (p : Fin 4096) :
    x8 (ix2 p 0) = (((p.val % 64 : ℕ) : ℝ) : EReal) ∧ x8 (ix2 p 1) = (((p.val / 64 : ℕ) : ℝ) : EReal) := by
  dsimp only [fn] at h
  have hs : Subsingleton S_.Idx := ⟨fun a b => funext fun a => a.elim0⟩
  obtain ⟨h1, h2⟩ := (IntOp.andi_eq_one).1 h
  have e1 := Host.reduce_andi_all _ _ _ _ i h1 (ix1 p)
  have e2 := Host.reduce_andi_all _ _ _ _ i h2 (ix1 p)
  refine ⟨?_, ?_⟩
  · revert e1
    pointwise
    exact fun e => (eq_of_flag _ _ e).trans (small_float ⟨_, Nat.mod_lt _ (by decide)⟩)
  · revert e2
    pointwise
    exact fun e => (eq_of_flag _ _ e).trans (small_float ⟨_, by omega⟩)

end Cert.Pre_pixel_grid
-- ==== Proof.Claims.lean ====
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.Values
public import proofs.«01_k».proof.Proof.PixelGrid
public import Idealize.ShloMosaic.Adequacy
public import Idealize.ShloMosaic.Init

@[expose] public section

set_option maxRecDepth 16384

/-! The claims, one by one. -/

noncomputable section

namespace Cert.Proof.Claims
open Idealize.ShloMosaic Idealize.ShloMosaic.TcCoe Idealize.ShloMosaic.Pointwise Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_grid : Cert.quiescent_KernelIdeal_pre_pixel_grid (hPre_pixel_grid := Cert.Pre_pixel_grid.facts) :=
  fun m ρ _ => Cert.KernelIdeal.Gen.frame m ρ

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_ri_grid : Cert.quiescent_ReferenceIdeal_pre_pixel_grid (hPre_pixel_grid := Cert.Pre_pixel_grid.facts) :=
  fun m ρ _ => frame_ri m ρ trivial

/-- The one named constant: the table gives it the value `-1/18`. -/
theorem preserves : Cert.preserves_Kernel_KernelIdeal :=
  IdealRules.named_const.statement Cert.KernelIdeal.κ "inv_two_sigma_sq" .f32 0xBD638E39#32 ((-1 / 18 : ℝ) : EReal) rfl

/-- On arguments that agree, and whose ninth is the pixel grid, the kernel's two arrays are the reference's. -/
theorem algebraic : Cert.algebraic_KernelIdeal_ReferenceIdeal_pre_pixel_grid (hPre_pixel_grid := Cert.Pre_pixel_grid.facts) := by
  intro m ρ m' ρ' hpre hagree
  have := Cert.Pre_pixel_grid.facts
  refine ⟨_, _, Cert.KernelIdeal.Gen.run_stages m ρ fun c p =>
      Cert.Pre_pixel_grid.grid _ _ _ _ _ _ _ _ _ _ (congrFun (hpre c) (fun a => a.elim0)) p, ?_⟩
  refine (θ_run Cert.ReferenceIdeal.defs _ _).mono (fun _ h c => ⟨(h c).1.trans ?_, (h c).2.1.trans ?_, (h c).2.2⟩)
    (Cert.ReferenceIdeal.Read.run m' ρ')
  · obtain ⟨h0, h1, h2, h3, h4, h5, h6, h7, -⟩ := hagree c
    exact Cert.ReferenceIdeal.Read.embed_congr h0 h1 h2 h3 h4 h5 h6 h7
  · obtain ⟨h0, h1, h2, h3, h4, h5, h6, h7, h8⟩ := hagree c
    exact Cert.ReferenceIdeal.Read.affinity_congr h0 h1 h2 h3 h4 h5 h6 h7 h8

end Cert.Proof.Claims
-- ==== Proof.lean ====
module

public import proofs.«01_k».proof.Defs
public import proofs.«01_k».proof.Proof.Claims
public import proofs.«01_k».proof.Proof.PixelGrid
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

/-! The certificate: the frames of kernel, ideal kernel and reference, the ideal kernel as the kernel over the extended
reals, and the equality of its two results with the reference's over a pixel grid. `Claims` proves them one by one. -/

noncomputable section

namespace Cert.Proof

theorem claim : Cert.Claim :=
  ⟨Cert.Kernel.Gen.facts, Cert.KernelIdeal.Gen.facts, Cert.ReferenceIdeal.Gen.facts, Cert.Pre_pixel_grid.facts,
    Claims.frame_p, Claims.frame_pi, Claims.frame_pi_grid, Claims.frame_ri, Claims.frame_ri_grid, Claims.preserves, Claims.algebraic⟩

end Cert.Proof

end
